-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S8x16x256x256 : Shape := ⟨4, ![8, 16, 256, 256]⟩
abbrev S8x16 : Shape := ⟨2, ![8, 16]⟩
abbrev S_ : Shape := ⟨0, ![]⟩
abbrev S256x256 : Shape := ⟨2, ![256, 256]⟩
abbrev S1x1x256x256 : Shape := ⟨4, ![1, 1, 256, 256]⟩
abbrev S1x1 : Shape := ⟨2, ![1, 1]⟩
abbrev S256x1024 : Shape := ⟨2, ![256, 1024]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .fp8e5m2⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e5m2⟩
  | .local _ .vmem, ⟨1, _⟩ => ⟨S256x2048, .fp8e5m2⟩
  | .local _ .vmem, ⟨2, _⟩ => ⟨S256x2048, .f32⟩
  | .local _ .vmem, ⟨3, _⟩ => ⟨S8x16x256x256, .bf16⟩
  | .local _ .smem, ⟨0, _⟩ => ⟨S1, .f32⟩
  | .local _ .smem, ⟨1, _⟩ => ⟨S1, .f32⟩
  | _, _ => ⟨S4096x256, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 261 → Bool
  | ⟨i, _⟩ => dmaSemScopedAt i

abbrev sig : RefSig :=
  (ofTc nBuf bufTy 1 261 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c256_i32 : BitVec 32 := 256#32
  let v13 : BitVec 32 := Scalar.muli v5 c256_i32
  let v14 : Index := Scalar.indexCast v13
  let c0 : Index := 0#32
  ![v14.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v24 : BitVec 32 := Scalar.muli v7 c1_i32_24
  let v25 : BitVec 32 := Scalar.addi c0_i32_25 v24
  v25.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c256_i32_30 : BitVec 32 := 256#32
  let v34 : BitVec 32 := Scalar.muli v7 c256_i32_30
  let v35 : Index := Scalar.indexCast v34
  let c0_31 : Index := 0#32
  ![v35.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_44 : BitVec 32 := 1#32
  let v45 : BitVec 32 := Scalar.muli v5 c1_i32_44
  let v46 : BitVec 32 := Scalar.addi c0_i32_45 v45
  v46.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_65 : BitVec 32 := 1#32
  let v66 : BitVec 32 := Scalar.muli v7 c1_i32_65
  let v67 : BitVec 32 := Scalar.addi c0_i32_66 v66
  v67.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_85 : BitVec 32 := 1#32
  let v87 : BitVec 32 := Scalar.muli v5 c1_i32_85
  let v88 : BitVec 32 := Scalar.addi c0_i32_86 v87
  v88.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_106 : BitVec 32 := 1#32
  let v108 : BitVec 32 := Scalar.muli v7 c1_i32_106
  let v109 : BitVec 32 := Scalar.addi c0_i32_107 v108
  v109.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_126 : BitVec 32 := 1#32
  let v129 : BitVec 32 := Scalar.muli v5 c1_i32_126
  let v130 : BitVec 32 := Scalar.addi c0_i32_127 v129
  v130.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_146 : BitVec 32 := 1#32
  let v150 : BitVec 32 := Scalar.muli v7 c1_i32_146
  let v151 : BitVec 32 := Scalar.addi c0_i32_147 v150
  v151.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_166 : BitVec 32 := 1#32
  let v171 : BitVec 32 := Scalar.muli v5 c1_i32_166
  let v172 : BitVec 32 := Scalar.addi c0_i32_167 v171
  v172.toNat
def k0_off3 (d0 : Dev nD) (c0_i32_175 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v184 : BitVec 32 := Scalar.addi v2 c32_i32
  let c2_i32_174 : BitVec 32 := 2#32
  let v185 : BitVec 32 := Scalar.subi v184 c2_i32_174
  let v186 : BitVec 32 := Scalar.subi v185 c0_i32_175
  let c16_i32_176 : BitVec 32 := 16#32
  let v187 : BitVec 32 := Scalar.remsi v186 c16_i32_176
  let c256_i32_180 : BitVec 32 := 256#32
  let v191 : BitVec 32 := Scalar.muli v187 c256_i32_180
  let v192 : Index := Scalar.indexCast v191
  let c0_181 : Index := 0#32
  ![v192.toNat, 0]
def k0_off4 (d0 : Dev nD) (c0_i32_178 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v188 : BitVec 32 := Scalar.addi v2 c2_i32_177
  let v189 : BitVec 32 := Scalar.addi v188 c0_i32_178
  let c16_i32_179 : BitVec 32 := 16#32
  let v190 : BitVec 32 := Scalar.remsi v189 c16_i32_179
  let c256_i32_185 : BitVec 32 := 256#32
  let v198 : BitVec 32 := Scalar.muli v190 c256_i32_185
  let v199 : Index := Scalar.indexCast v198
  let c0_186 : Index := 0#32
  ![v199.toNat, 0]
def k0_dev11 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_233 : BitVec 32 := 1#32
  let v235 : BitVec 32 := Scalar.muli v7 c1_i32_233
  let v236 : BitVec 32 := Scalar.addi c0_i32_234 v235
  v236.toNat
def k0_dev12 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_282 : BitVec 32 := 1#32
  let v267 : BitVec 32 := Scalar.muli v5 c1_i32_282
  let v268 : BitVec 32 := Scalar.addi c0_i32_283 v267
  v268.toNat
def k0_dev13 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_331 : BitVec 32 := 1#32
  let v299 : BitVec 32 := Scalar.muli v7 c1_i32_331
  let v300 : BitVec 32 := Scalar.addi c0_i32_332 v299
  v300.toNat
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_380 : BitVec 32 := 1#32
  let v331 : BitVec 32 := Scalar.muli v5 c1_i32_380
  let v332 : BitVec 32 := Scalar.addi c0_i32_381 v331
  v332.toNat
def k0_dev15 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_429 : BitVec 32 := 1#32
  let v363 : BitVec 32 := Scalar.muli v7 c1_i32_429
  let v364 : BitVec 32 := Scalar.addi c0_i32_430 v363
  v364.toNat
def k0_dev16 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_478 : BitVec 32 := 1#32
  let v395 : BitVec 32 := Scalar.muli v5 c1_i32_478
  let v396 : BitVec 32 := Scalar.addi c0_i32_479 v395
  v396.toNat
def k0_dev17 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_527 : BitVec 32 := 1#32
  let v427 : BitVec 32 := Scalar.muli v7 c1_i32_527
  let v428 : BitVec 32 := Scalar.addi c0_i32_528 v427
  v428.toNat
def k0_dev18 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_576 : BitVec 32 := 1#32
  let v459 : BitVec 32 := Scalar.muli v5 c1_i32_576
  let v460 : BitVec 32 := Scalar.addi c0_i32_577 v459
  v460.toNat
def k0_dev19 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_642 : BitVec 32 := 1#32
  let v520 : BitVec 32 := Scalar.muli v7 c1_i32_642
  let v521 : BitVec 32 := Scalar.addi c0_i32_643 v520
  v521.toNat
def k0_dev20 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_691 : BitVec 32 := 1#32
  let v552 : BitVec 32 := Scalar.muli v5 c1_i32_691
  let v553 : BitVec 32 := Scalar.addi c0_i32_692 v552
  v553.toNat
def k0_dev21 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_740 : BitVec 32 := 1#32
  let v584 : BitVec 32 := Scalar.muli v7 c1_i32_740
  let v585 : BitVec 32 := Scalar.addi c0_i32_741 v584
  v585.toNat
def k0_dev22 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_789 : BitVec 32 := 1#32
  let v616 : BitVec 32 := Scalar.muli v5 c1_i32_789
  let v617 : BitVec 32 := Scalar.addi c0_i32_790 v616
  v617.toNat
def k0_dev23 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_838 : BitVec 32 := 1#32
  let v648 : BitVec 32 := Scalar.muli v7 c1_i32_838
  let v649 : BitVec 32 := Scalar.addi c0_i32_839 v648
  v649.toNat
def k0_dev24 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_887 : BitVec 32 := 1#32
  let v680 : BitVec 32 := Scalar.muli v5 c1_i32_887
  let v681 : BitVec 32 := Scalar.addi c0_i32_888 v680
  v681.toNat
def k0_dev25 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_936 : BitVec 32 := 1#32
  let v712 : BitVec 32 := Scalar.muli v7 c1_i32_936
  let v713 : BitVec 32 := Scalar.addi c0_i32_937 v712
  v713.toNat
def k0_dev26 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_985 : BitVec 32 := 1#32
  let v744 : BitVec 32 := Scalar.muli v5 c1_i32_985
  let v745 : BitVec 32 := Scalar.addi c0_i32_986 v744
  v745.toNat
def k0_dev27 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1051 : BitVec 32 := 1#32
  let v805 : BitVec 32 := Scalar.muli v7 c1_i32_1051
  let v806 : BitVec 32 := Scalar.addi c0_i32_1052 v805
  v806.toNat
def k0_dev28 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1100 : BitVec 32 := 1#32
  let v837 : BitVec 32 := Scalar.muli v5 c1_i32_1100
  let v838 : BitVec 32 := Scalar.addi c0_i32_1101 v837
  v838.toNat
def k0_dev29 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1149 : BitVec 32 := 1#32
  let v869 : BitVec 32 := Scalar.muli v7 c1_i32_1149
  let v870 : BitVec 32 := Scalar.addi c0_i32_1150 v869
  v870.toNat
def k0_dev30 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1198 : BitVec 32 := 1#32
  let v901 : BitVec 32 := Scalar.muli v5 c1_i32_1198
  let v902 : BitVec 32 := Scalar.addi c0_i32_1199 v901
  v902.toNat
def k0_dev31 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1247 : BitVec 32 := 1#32
  let v933 : BitVec 32 := Scalar.muli v7 c1_i32_1247
  let v934 : BitVec 32 := Scalar.addi c0_i32_1248 v933
  v934.toNat
def k0_dev32 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1296 : BitVec 32 := 1#32
  let v965 : BitVec 32 := Scalar.muli v5 c1_i32_1296
  let v966 : BitVec 32 := Scalar.addi c0_i32_1297 v965
  v966.toNat
def k0_dev33 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1345 : BitVec 32 := 1#32
  let v997 : BitVec 32 := Scalar.muli v7 c1_i32_1345
  let v998 : BitVec 32 := Scalar.addi c0_i32_1346 v997
  v998.toNat
def k0_dev34 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1394 : BitVec 32 := 1#32
  let v1029 : BitVec 32 := Scalar.muli v5 c1_i32_1394
  let v1030 : BitVec 32 := Scalar.addi c0_i32_1395 v1029
  v1030.toNat
def k0_dev35 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1460 : BitVec 32 := 1#32
  let v1090 : BitVec 32 := Scalar.muli v7 c1_i32_1460
  let v1091 : BitVec 32 := Scalar.addi c0_i32_1461 v1090
  v1091.toNat
def k0_dev36 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1509 : BitVec 32 := 1#32
  let v1122 : BitVec 32 := Scalar.muli v5 c1_i32_1509
  let v1123 : BitVec 32 := Scalar.addi c0_i32_1510 v1122
  v1123.toNat
def k0_dev37 (d0 : Dev nD) : Nat :=
  let c0_i32_1559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1558 : BitVec 32 := 1#32
  let v1154 : BitVec 32 := Scalar.muli v7 c1_i32_1558
  let v1155 : BitVec 32 := Scalar.addi c0_i32_1559 v1154
  v1155.toNat
def k0_dev38 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1607 : BitVec 32 := 1#32
  let v1186 : BitVec 32 := Scalar.muli v5 c1_i32_1607
  let v1187 : BitVec 32 := Scalar.addi c0_i32_1608 v1186
  v1187.toNat
def k0_dev39 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1656 : BitVec 32 := 1#32
  let v1218 : BitVec 32 := Scalar.muli v7 c1_i32_1656
  let v1219 : BitVec 32 := Scalar.addi c0_i32_1657 v1218
  v1219.toNat
def k0_dev40 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1705 : BitVec 32 := 1#32
  let v1250 : BitVec 32 := Scalar.muli v5 c1_i32_1705
  let v1251 : BitVec 32 := Scalar.addi c0_i32_1706 v1250
  v1251.toNat
def k0_dev41 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1754 : BitVec 32 := 1#32
  let v1282 : BitVec 32 := Scalar.muli v7 c1_i32_1754
  let v1283 : BitVec 32 := Scalar.addi c0_i32_1755 v1282
  v1283.toNat
def k0_dev42 (d0 : Dev nD) : Nat :=
  let c0_i32_1804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1803 : BitVec 32 := 1#32
  let v1314 : BitVec 32 := Scalar.muli v5 c1_i32_1803
  let v1315 : BitVec 32 := Scalar.addi c0_i32_1804 v1314
  v1315.toNat
def k0_dev43 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1869 : BitVec 32 := 1#32
  let v1375 : BitVec 32 := Scalar.muli v7 c1_i32_1869
  let v1376 : BitVec 32 := Scalar.addi c0_i32_1870 v1375
  v1376.toNat
def k0_dev44 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1918 : BitVec 32 := 1#32
  let v1407 : BitVec 32 := Scalar.muli v5 c1_i32_1918
  let v1408 : BitVec 32 := Scalar.addi c0_i32_1919 v1407
  v1408.toNat
def k0_dev45 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1967 : BitVec 32 := 1#32
  let v1439 : BitVec 32 := Scalar.muli v7 c1_i32_1967
  let v1440 : BitVec 32 := Scalar.addi c0_i32_1968 v1439
  v1440.toNat
def k0_dev46 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2016 : BitVec 32 := 1#32
  let v1471 : BitVec 32 := Scalar.muli v5 c1_i32_2016
  let v1472 : BitVec 32 := Scalar.addi c0_i32_2017 v1471
  v1472.toNat
def k0_dev47 (d0 : Dev nD) : Nat :=
  let c0_i32_2066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2065 : BitVec 32 := 1#32
  let v1503 : BitVec 32 := Scalar.muli v7 c1_i32_2065
  let v1504 : BitVec 32 := Scalar.addi c0_i32_2066 v1503
  v1504.toNat
def k0_dev48 (d0 : Dev nD) : Nat :=
  let c0_i32_2115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2114 : BitVec 32 := 1#32
  let v1535 : BitVec 32 := Scalar.muli v5 c1_i32_2114
  let v1536 : BitVec 32 := Scalar.addi c0_i32_2115 v1535
  v1536.toNat
def k0_dev49 (d0 : Dev nD) : Nat :=
  let c0_i32_2164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2163 : BitVec 32 := 1#32
  let v1567 : BitVec 32 := Scalar.muli v7 c1_i32_2163
  let v1568 : BitVec 32 := Scalar.addi c0_i32_2164 v1567
  v1568.toNat
def k0_dev50 (d0 : Dev nD) : Nat :=
  let c0_i32_2213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2212 : BitVec 32 := 1#32
  let v1599 : BitVec 32 := Scalar.muli v5 c1_i32_2212
  let v1600 : BitVec 32 := Scalar.addi c0_i32_2213 v1599
  v1600.toNat
def k0_dev51 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2278 : BitVec 32 := 1#32
  let v1660 : BitVec 32 := Scalar.muli v7 c1_i32_2278
  let v1661 : BitVec 32 := Scalar.addi c0_i32_2279 v1660
  v1661.toNat
def k0_dev52 (d0 : Dev nD) : Nat :=
  let c0_i32_2328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2327 : BitVec 32 := 1#32
  let v1692 : BitVec 32 := Scalar.muli v5 c1_i32_2327
  let v1693 : BitVec 32 := Scalar.addi c0_i32_2328 v1692
  v1693.toNat
def k0_dev53 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2376 : BitVec 32 := 1#32
  let v1724 : BitVec 32 := Scalar.muli v7 c1_i32_2376
  let v1725 : BitVec 32 := Scalar.addi c0_i32_2377 v1724
  v1725.toNat
def k0_dev54 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2425 : BitVec 32 := 1#32
  let v1756 : BitVec 32 := Scalar.muli v5 c1_i32_2425
  let v1757 : BitVec 32 := Scalar.addi c0_i32_2426 v1756
  v1757.toNat
def k0_dev55 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2474 : BitVec 32 := 1#32
  let v1788 : BitVec 32 := Scalar.muli v7 c1_i32_2474
  let v1789 : BitVec 32 := Scalar.addi c0_i32_2475 v1788
  v1789.toNat
def k0_dev56 (d0 : Dev nD) : Nat :=
  let c0_i32_2524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2523 : BitVec 32 := 1#32
  let v1820 : BitVec 32 := Scalar.muli v5 c1_i32_2523
  let v1821 : BitVec 32 := Scalar.addi c0_i32_2524 v1820
  v1821.toNat
def k0_dev57 (d0 : Dev nD) : Nat :=
  let c0_i32_2573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2572 : BitVec 32 := 1#32
  let v1852 : BitVec 32 := Scalar.muli v7 c1_i32_2572
  let v1853 : BitVec 32 := Scalar.addi c0_i32_2573 v1852
  v1853.toNat
def k0_dev58 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2621 : BitVec 32 := 1#32
  let v1884 : BitVec 32 := Scalar.muli v5 c1_i32_2621
  let v1885 : BitVec 32 := Scalar.addi c0_i32_2622 v1884
  v1885.toNat
def k0_dev59 (d0 : Dev nD) : Nat :=
  let c0_i32_2687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2686 : BitVec 32 := 1#32
  let v1945 : BitVec 32 := Scalar.muli v7 c1_i32_2686
  let v1946 : BitVec 32 := Scalar.addi c0_i32_2687 v1945
  v1946.toNat
def k0_dev60 (d0 : Dev nD) : Nat :=
  let c0_i32_2736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2735 : BitVec 32 := 1#32
  let v1977 : BitVec 32 := Scalar.muli v5 c1_i32_2735
  let v1978 : BitVec 32 := Scalar.addi c0_i32_2736 v1977
  v1978.toNat
def k0_dev61 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2784 : BitVec 32 := 1#32
  let v2009 : BitVec 32 := Scalar.muli v7 c1_i32_2784
  let v2010 : BitVec 32 := Scalar.addi c0_i32_2785 v2009
  v2010.toNat
def k0_dev62 (d0 : Dev nD) : Nat :=
  let c0_i32_2834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2833 : BitVec 32 := 1#32
  let v2041 : BitVec 32 := Scalar.muli v5 c1_i32_2833
  let v2042 : BitVec 32 := Scalar.addi c0_i32_2834 v2041
  v2042.toNat
def k0_dev63 (d0 : Dev nD) : Nat :=
  let c0_i32_2883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2882 : BitVec 32 := 1#32
  let v2073 : BitVec 32 := Scalar.muli v7 c1_i32_2882
  let v2074 : BitVec 32 := Scalar.addi c0_i32_2883 v2073
  v2074.toNat
def k0_dev64 (d0 : Dev nD) : Nat :=
  let c0_i32_2932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2931 : BitVec 32 := 1#32
  let v2105 : BitVec 32 := Scalar.muli v5 c1_i32_2931
  let v2106 : BitVec 32 := Scalar.addi c0_i32_2932 v2105
  v2106.toNat
def k0_dev65 (d0 : Dev nD) : Nat :=
  let c0_i32_2981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2980 : BitVec 32 := 1#32
  let v2137 : BitVec 32 := Scalar.muli v7 c1_i32_2980
  let v2138 : BitVec 32 := Scalar.addi c0_i32_2981 v2137
  v2138.toNat
def k0_dev66 (d0 : Dev nD) : Nat :=
  let c0_i32_3030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3029 : BitVec 32 := 1#32
  let v2169 : BitVec 32 := Scalar.muli v5 c1_i32_3029
  let v2170 : BitVec 32 := Scalar.addi c0_i32_3030 v2169
  v2170.toNat
def k0_dev67 (d0 : Dev nD) : Nat :=
  let c0_i32_3094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3093 : BitVec 32 := 1#32
  let v2230 : BitVec 32 := Scalar.muli v7 c1_i32_3093
  let v2231 : BitVec 32 := Scalar.addi c0_i32_3094 v2230
  v2231.toNat
def k0_dev68 (d0 : Dev nD) : Nat :=
  let c0_i32_3143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3142 : BitVec 32 := 1#32
  let v2262 : BitVec 32 := Scalar.muli v5 c1_i32_3142
  let v2263 : BitVec 32 := Scalar.addi c0_i32_3143 v2262
  v2263.toNat
def k0_dev69 (d0 : Dev nD) : Nat :=
  let c0_i32_3192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3191 : BitVec 32 := 1#32
  let v2294 : BitVec 32 := Scalar.muli v7 c1_i32_3191
  let v2295 : BitVec 32 := Scalar.addi c0_i32_3192 v2294
  v2295.toNat
def k0_dev70 (d0 : Dev nD) : Nat :=
  let c0_i32_3241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3240 : BitVec 32 := 1#32
  let v2326 : BitVec 32 := Scalar.muli v5 c1_i32_3240
  let v2327 : BitVec 32 := Scalar.addi c0_i32_3241 v2326
  v2327.toNat
def k0_dev71 (d0 : Dev nD) : Nat :=
  let c0_i32_3290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3289 : BitVec 32 := 1#32
  let v2358 : BitVec 32 := Scalar.muli v7 c1_i32_3289
  let v2359 : BitVec 32 := Scalar.addi c0_i32_3290 v2358
  v2359.toNat
def k0_dev72 (d0 : Dev nD) : Nat :=
  let c0_i32_3339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3338 : BitVec 32 := 1#32
  let v2390 : BitVec 32 := Scalar.muli v5 c1_i32_3338
  let v2391 : BitVec 32 := Scalar.addi c0_i32_3339 v2390
  v2391.toNat
def k0_dev73 (d0 : Dev nD) : Nat :=
  let c0_i32_3388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3387 : BitVec 32 := 1#32
  let v2422 : BitVec 32 := Scalar.muli v7 c1_i32_3387
  let v2423 : BitVec 32 := Scalar.addi c0_i32_3388 v2422
  v2423.toNat
def k0_dev74 (d0 : Dev nD) : Nat :=
  let c0_i32_3437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3436 : BitVec 32 := 1#32
  let v2454 : BitVec 32 := Scalar.muli v5 c1_i32_3436
  let v2455 : BitVec 32 := Scalar.addi c0_i32_3437 v2454
  v2455.toNat
def k0_dev75 (d0 : Dev nD) : Nat :=
  let c0_i32_3501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3500 : BitVec 32 := 1#32
  let v2515 : BitVec 32 := Scalar.muli v7 c1_i32_3500
  let v2516 : BitVec 32 := Scalar.addi c0_i32_3501 v2515
  v2516.toNat
def k0_dev76 (d0 : Dev nD) : Nat :=
  let c0_i32_3550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3549 : BitVec 32 := 1#32
  let v2547 : BitVec 32 := Scalar.muli v5 c1_i32_3549
  let v2548 : BitVec 32 := Scalar.addi c0_i32_3550 v2547
  v2548.toNat
def k0_dev77 (d0 : Dev nD) : Nat :=
  let c0_i32_3599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3598 : BitVec 32 := 1#32
  let v2579 : BitVec 32 := Scalar.muli v7 c1_i32_3598
  let v2580 : BitVec 32 := Scalar.addi c0_i32_3599 v2579
  v2580.toNat
def k0_dev78 (d0 : Dev nD) : Nat :=
  let c0_i32_3648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3647 : BitVec 32 := 1#32
  let v2611 : BitVec 32 := Scalar.muli v5 c1_i32_3647
  let v2612 : BitVec 32 := Scalar.addi c0_i32_3648 v2611
  v2612.toNat
def k0_dev79 (d0 : Dev nD) : Nat :=
  let c0_i32_3697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3696 : BitVec 32 := 1#32
  let v2643 : BitVec 32 := Scalar.muli v7 c1_i32_3696
  let v2644 : BitVec 32 := Scalar.addi c0_i32_3697 v2643
  v2644.toNat
def k0_dev80 (d0 : Dev nD) : Nat :=
  let c0_i32_3746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3745 : BitVec 32 := 1#32
  let v2675 : BitVec 32 := Scalar.muli v5 c1_i32_3745
  let v2676 : BitVec 32 := Scalar.addi c0_i32_3746 v2675
  v2676.toNat
def k0_dev81 (d0 : Dev nD) : Nat :=
  let c0_i32_3795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3794 : BitVec 32 := 1#32
  let v2707 : BitVec 32 := Scalar.muli v7 c1_i32_3794
  let v2708 : BitVec 32 := Scalar.addi c0_i32_3795 v2707
  v2708.toNat
def k0_dev82 (d0 : Dev nD) : Nat :=
  let c0_i32_3844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3843 : BitVec 32 := 1#32
  let v2739 : BitVec 32 := Scalar.muli v5 c1_i32_3843
  let v2740 : BitVec 32 := Scalar.addi c0_i32_3844 v2739
  v2740.toNat
def k0_dev83 (d0 : Dev nD) : Nat :=
  let c0_i32_3908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3907 : BitVec 32 := 1#32
  let v2800 : BitVec 32 := Scalar.muli v7 c1_i32_3907
  let v2801 : BitVec 32 := Scalar.addi c0_i32_3908 v2800
  v2801.toNat
def k0_dev84 (d0 : Dev nD) : Nat :=
  let c0_i32_3957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3956 : BitVec 32 := 1#32
  let v2832 : BitVec 32 := Scalar.muli v5 c1_i32_3956
  let v2833 : BitVec 32 := Scalar.addi c0_i32_3957 v2832
  v2833.toNat
def k0_dev85 (d0 : Dev nD) : Nat :=
  let c0_i32_4006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4005 : BitVec 32 := 1#32
  let v2864 : BitVec 32 := Scalar.muli v7 c1_i32_4005
  let v2865 : BitVec 32 := Scalar.addi c0_i32_4006 v2864
  v2865.toNat
def k0_dev86 (d0 : Dev nD) : Nat :=
  let c0_i32_4055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4054 : BitVec 32 := 1#32
  let v2896 : BitVec 32 := Scalar.muli v5 c1_i32_4054
  let v2897 : BitVec 32 := Scalar.addi c0_i32_4055 v2896
  v2897.toNat
def k0_dev87 (d0 : Dev nD) : Nat :=
  let c0_i32_4104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4103 : BitVec 32 := 1#32
  let v2928 : BitVec 32 := Scalar.muli v7 c1_i32_4103
  let v2929 : BitVec 32 := Scalar.addi c0_i32_4104 v2928
  v2929.toNat
def k0_dev88 (d0 : Dev nD) : Nat :=
  let c0_i32_4153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4152 : BitVec 32 := 1#32
  let v2960 : BitVec 32 := Scalar.muli v5 c1_i32_4152
  let v2961 : BitVec 32 := Scalar.addi c0_i32_4153 v2960
  v2961.toNat
def k0_dev89 (d0 : Dev nD) : Nat :=
  let c0_i32_4202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4201 : BitVec 32 := 1#32
  let v2992 : BitVec 32 := Scalar.muli v7 c1_i32_4201
  let v2993 : BitVec 32 := Scalar.addi c0_i32_4202 v2992
  v2993.toNat
def k0_dev90 (d0 : Dev nD) : Nat :=
  let c0_i32_4251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4250 : BitVec 32 := 1#32
  let v3024 : BitVec 32 := Scalar.muli v5 c1_i32_4250
  let v3025 : BitVec 32 := Scalar.addi c0_i32_4251 v3024
  v3025.toNat
def k0_dev91 (d0 : Dev nD) : Nat :=
  let c0_i32_4315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4314 : BitVec 32 := 1#32
  let v3085 : BitVec 32 := Scalar.muli v7 c1_i32_4314
  let v3086 : BitVec 32 := Scalar.addi c0_i32_4315 v3085
  v3086.toNat
def k0_dev92 (d0 : Dev nD) : Nat :=
  let c0_i32_4364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4363 : BitVec 32 := 1#32
  let v3117 : BitVec 32 := Scalar.muli v5 c1_i32_4363
  let v3118 : BitVec 32 := Scalar.addi c0_i32_4364 v3117
  v3118.toNat
def k0_dev93 (d0 : Dev nD) : Nat :=
  let c0_i32_4413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4412 : BitVec 32 := 1#32
  let v3149 : BitVec 32 := Scalar.muli v7 c1_i32_4412
  let v3150 : BitVec 32 := Scalar.addi c0_i32_4413 v3149
  v3150.toNat
def k0_dev94 (d0 : Dev nD) : Nat :=
  let c0_i32_4462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4461 : BitVec 32 := 1#32
  let v3181 : BitVec 32 := Scalar.muli v5 c1_i32_4461
  let v3182 : BitVec 32 := Scalar.addi c0_i32_4462 v3181
  v3182.toNat
def k0_dev95 (d0 : Dev nD) : Nat :=
  let c0_i32_4511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4510 : BitVec 32 := 1#32
  let v3213 : BitVec 32 := Scalar.muli v7 c1_i32_4510
  let v3214 : BitVec 32 := Scalar.addi c0_i32_4511 v3213
  v3214.toNat
def k0_dev96 (d0 : Dev nD) : Nat :=
  let c0_i32_4560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4559 : BitVec 32 := 1#32
  let v3245 : BitVec 32 := Scalar.muli v5 c1_i32_4559
  let v3246 : BitVec 32 := Scalar.addi c0_i32_4560 v3245
  v3246.toNat
def k0_dev97 (d0 : Dev nD) : Nat :=
  let c0_i32_4609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4608 : BitVec 32 := 1#32
  let v3277 : BitVec 32 := Scalar.muli v7 c1_i32_4608
  let v3278 : BitVec 32 := Scalar.addi c0_i32_4609 v3277
  v3278.toNat
def k0_dev98 (d0 : Dev nD) : Nat :=
  let c0_i32_4658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4657 : BitVec 32 := 1#32
  let v3309 : BitVec 32 := Scalar.muli v5 c1_i32_4657
  let v3310 : BitVec 32 := Scalar.addi c0_i32_4658 v3309
  v3310.toNat
def k0_dev99 (d0 : Dev nD) : Nat :=
  let c0_i32_4722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4721 : BitVec 32 := 1#32
  let v3370 : BitVec 32 := Scalar.muli v7 c1_i32_4721
  let v3371 : BitVec 32 := Scalar.addi c0_i32_4722 v3370
  v3371.toNat
def k0_dev100 (d0 : Dev nD) : Nat :=
  let c0_i32_4771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4770 : BitVec 32 := 1#32
  let v3402 : BitVec 32 := Scalar.muli v5 c1_i32_4770
  let v3403 : BitVec 32 := Scalar.addi c0_i32_4771 v3402
  v3403.toNat
def k0_dev101 (d0 : Dev nD) : Nat :=
  let c0_i32_4820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4819 : BitVec 32 := 1#32
  let v3434 : BitVec 32 := Scalar.muli v7 c1_i32_4819
  let v3435 : BitVec 32 := Scalar.addi c0_i32_4820 v3434
  v3435.toNat
def k0_dev102 (d0 : Dev nD) : Nat :=
  let c0_i32_4869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4868 : BitVec 32 := 1#32
  let v3466 : BitVec 32 := Scalar.muli v5 c1_i32_4868
  let v3467 : BitVec 32 := Scalar.addi c0_i32_4869 v3466
  v3467.toNat
def k0_dev103 (d0 : Dev nD) : Nat :=
  let c0_i32_4918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4917 : BitVec 32 := 1#32
  let v3498 : BitVec 32 := Scalar.muli v7 c1_i32_4917
  let v3499 : BitVec 32 := Scalar.addi c0_i32_4918 v3498
  v3499.toNat
def k0_dev104 (d0 : Dev nD) : Nat :=
  let c0_i32_4967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4966 : BitVec 32 := 1#32
  let v3530 : BitVec 32 := Scalar.muli v5 c1_i32_4966
  let v3531 : BitVec 32 := Scalar.addi c0_i32_4967 v3530
  v3531.toNat
def k0_dev105 (d0 : Dev nD) : Nat :=
  let c0_i32_5016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5015 : BitVec 32 := 1#32
  let v3562 : BitVec 32 := Scalar.muli v7 c1_i32_5015
  let v3563 : BitVec 32 := Scalar.addi c0_i32_5016 v3562
  v3563.toNat
def k0_dev106 (d0 : Dev nD) : Nat :=
  let c0_i32_5065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5064 : BitVec 32 := 1#32
  let v3594 : BitVec 32 := Scalar.muli v5 c1_i32_5064
  let v3595 : BitVec 32 := Scalar.addi c0_i32_5065 v3594
  v3595.toNat
def k0_dev107 (d0 : Dev nD) : Nat :=
  let c0_i32_5129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5128 : BitVec 32 := 1#32
  let v3655 : BitVec 32 := Scalar.muli v7 c1_i32_5128
  let v3656 : BitVec 32 := Scalar.addi c0_i32_5129 v3655
  v3656.toNat
def k0_dev108 (d0 : Dev nD) : Nat :=
  let c0_i32_5178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5177 : BitVec 32 := 1#32
  let v3687 : BitVec 32 := Scalar.muli v5 c1_i32_5177
  let v3688 : BitVec 32 := Scalar.addi c0_i32_5178 v3687
  v3688.toNat
def k0_dev109 (d0 : Dev nD) : Nat :=
  let c0_i32_5227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5226 : BitVec 32 := 1#32
  let v3719 : BitVec 32 := Scalar.muli v7 c1_i32_5226
  let v3720 : BitVec 32 := Scalar.addi c0_i32_5227 v3719
  v3720.toNat
def k0_dev110 (d0 : Dev nD) : Nat :=
  let c0_i32_5276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5275 : BitVec 32 := 1#32
  let v3751 : BitVec 32 := Scalar.muli v5 c1_i32_5275
  let v3752 : BitVec 32 := Scalar.addi c0_i32_5276 v3751
  v3752.toNat
def k0_dev111 (d0 : Dev nD) : Nat :=
  let c0_i32_5325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5324 : BitVec 32 := 1#32
  let v3783 : BitVec 32 := Scalar.muli v7 c1_i32_5324
  let v3784 : BitVec 32 := Scalar.addi c0_i32_5325 v3783
  v3784.toNat
def k0_dev112 (d0 : Dev nD) : Nat :=
  let c0_i32_5374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5373 : BitVec 32 := 1#32
  let v3815 : BitVec 32 := Scalar.muli v5 c1_i32_5373
  let v3816 : BitVec 32 := Scalar.addi c0_i32_5374 v3815
  v3816.toNat
def k0_dev113 (d0 : Dev nD) : Nat :=
  let c0_i32_5423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5422 : BitVec 32 := 1#32
  let v3847 : BitVec 32 := Scalar.muli v7 c1_i32_5422
  let v3848 : BitVec 32 := Scalar.addi c0_i32_5423 v3847
  v3848.toNat
def k0_dev114 (d0 : Dev nD) : Nat :=
  let c0_i32_5472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5471 : BitVec 32 := 1#32
  let v3879 : BitVec 32 := Scalar.muli v5 c1_i32_5471
  let v3880 : BitVec 32 := Scalar.addi c0_i32_5472 v3879
  v3880.toNat
def k0_dev115 (d0 : Dev nD) : Nat :=
  let c0_i32_5536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5535 : BitVec 32 := 1#32
  let v3940 : BitVec 32 := Scalar.muli v7 c1_i32_5535
  let v3941 : BitVec 32 := Scalar.addi c0_i32_5536 v3940
  v3941.toNat
def k0_dev116 (d0 : Dev nD) : Nat :=
  let c0_i32_5585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5584 : BitVec 32 := 1#32
  let v3972 : BitVec 32 := Scalar.muli v5 c1_i32_5584
  let v3973 : BitVec 32 := Scalar.addi c0_i32_5585 v3972
  v3973.toNat
def k0_dev117 (d0 : Dev nD) : Nat :=
  let c0_i32_5634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5633 : BitVec 32 := 1#32
  let v4004 : BitVec 32 := Scalar.muli v7 c1_i32_5633
  let v4005 : BitVec 32 := Scalar.addi c0_i32_5634 v4004
  v4005.toNat
def k0_dev118 (d0 : Dev nD) : Nat :=
  let c0_i32_5683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5682 : BitVec 32 := 1#32
  let v4036 : BitVec 32 := Scalar.muli v5 c1_i32_5682
  let v4037 : BitVec 32 := Scalar.addi c0_i32_5683 v4036
  v4037.toNat
def k0_dev119 (d0 : Dev nD) : Nat :=
  let c0_i32_5732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5731 : BitVec 32 := 1#32
  let v4068 : BitVec 32 := Scalar.muli v7 c1_i32_5731
  let v4069 : BitVec 32 := Scalar.addi c0_i32_5732 v4068
  v4069.toNat
def k0_dev120 (d0 : Dev nD) : Nat :=
  let c0_i32_5781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5780 : BitVec 32 := 1#32
  let v4100 : BitVec 32 := Scalar.muli v5 c1_i32_5780
  let v4101 : BitVec 32 := Scalar.addi c0_i32_5781 v4100
  v4101.toNat
def k0_dev121 (d0 : Dev nD) : Nat :=
  let c0_i32_5830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5829 : BitVec 32 := 1#32
  let v4132 : BitVec 32 := Scalar.muli v7 c1_i32_5829
  let v4133 : BitVec 32 := Scalar.addi c0_i32_5830 v4132
  v4133.toNat
def k0_dev122 (d0 : Dev nD) : Nat :=
  let c0_i32_5879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5878 : BitVec 32 := 1#32
  let v4164 : BitVec 32 := Scalar.muli v5 c1_i32_5878
  let v4165 : BitVec 32 := Scalar.addi c0_i32_5879 v4164
  v4165.toNat
abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The protocol of the sixteen-device reduce-scatter

Eight streams run around the ring of sixteen devices, four to the right (`k < 4`) and four to the left (`k ≥ 4`). A
device sends its running sum of stream `k` from slot `(k, s)` of its communication buffer into slot `(k, s + 1)` of the
neighbour in the stream's direction, for `s = 0 … 14`; a transfer uses the send semaphore `(k, s)` of the sender and the
receive semaphore `(k, s + 1)` of the receiver, each of them once.

The sends of one device are numbered `p = 0 … 119` in program order: step `p / 8`, stream `kF p`.

* The barrier semaphore of a device has two duties of one unit. Each neighbour pays one of them at its start and hands
  over its own slots that the device will fill: the right neighbour those of the streams running right, the left
  neighbour those of the streams running left.
* A send semaphore has one duty, paid by the transfer: it gives the slot sent from back to the sender.
* A receive semaphore has one duty, paid by the transfer of the neighbour upstream: it hands over the slot filled.
* Levels: staging and send semaphores 0, the barrier 1, the receive semaphore of slot `s` the level `s + 1`. A device
  waiting for slot `s + 1` of a stream owes slots `s + 2` and later only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's copy of the rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring -/

set_option backward.proofsInPublic true in
/-- The right neighbour, as the kernel computes it; -/
def nxt (c : Dev nD) : Dev nD := ⟨k0_dev2 c, k0_dev2_lt c⟩
set_option backward.proofsInPublic true in
/-- the left neighbour. -/
def prv (c : Dev nD) : Dev nD := ⟨k0_dev1 c, k0_dev1_lt c⟩

theorem nxt_val (c : Dev nD) : (nxt c).val = (c.val + 1) % 16 := k0_dev2_eq c
theorem prv_val (c : Dev nD) : (prv c).val = (c.val + 15) % 16 := k0_dev1_eq c
theorem dev_lt (c : Dev nD) : c.val < 16 := c.isLt

theorem prv_nxt (c : Dev nD) : prv (nxt c) = c := Fin.ext (by have := dev_lt c; rw [prv_val, nxt_val]; omega)
theorem nxt_prv (c : Dev nD) : nxt (prv c) = c := Fin.ext (by have := dev_lt c; rw [nxt_val, prv_val]; omega)

/-- One step around the ring. -/
def ring : Dev nD ≃ Dev nD := ⟨nxt, prv, prv_nxt, nxt_prv⟩

/-- Where stream `k` goes from device `c`, and where it comes from. -/
def dst (c : Dev nD) (k : Fin 8) : Dev nD := if k.val < 4 then nxt c else prv c
def src (c : Dev nD) (k : Fin 8) : Dev nD := if k.val < 4 then prv c else nxt c

theorem src_dst (c : Dev nD) (k : Fin 8) : src (dst c k) k = c := by
  unfold src dst; split
  · exact prv_nxt c
  · exact nxt_prv c
theorem dst_src (c : Dev nD) (k : Fin 8) : dst (src c k) k = c := by
  unfold src dst; split
  · exact nxt_prv c
  · exact prv_nxt c

/-! ## The order of the sends -/

set_option backward.proofsInPublic true in
/-- The stream of send `p`. -/
def kF (p : ℕ) : Fin 8 := ⟨p % 8 / 2 + 4 * (p % 2), by omega⟩
set_option backward.proofsInPublic true in
/-- The slot send `p` reads, -/
def sF (p : ℕ) : Fin 16 := ⟨p / 8 % 16, by omega⟩
set_option backward.proofsInPublic true in
/-- and the slot it fills. -/
def sN (p : ℕ) : Fin 16 := ⟨(p / 8 + 1) % 16, by omega⟩

theorem kF_add (p : ℕ) : kF (p + 8) = kF p := Fin.ext (by simp only [kF]; omega)
theorem sF_add (p : ℕ) : sF (p + 8) = sN p := Fin.ext (by simp only [sF, sN]; omega)

/-! ## The memrefs and the semaphores -/

abbrev xM : Memref sig .tc .vmem S4096x256 .fp8e5m2 := Memref.whole cc0_stg0_0
abbrev wM : Memref sig .tc .vmem S256x2048 .fp8e5m2 := Memref.whole cc0_stg1_0
abbrev aM : Memref sig .tc .smem S1 .f32 := Memref.whole cc0_stg2_0
abbrev bM : Memref sig .tc .smem S1 .f32 := Memref.whole cc0_stg3_0
abbrev oM : Memref sig .tc .vmem S256x2048 .f32 := Memref.whole cc0_stg4_0
abbrev cM : Memref sig .tc .vmem S8x16x256x256 .bf16 := Memref.whole cc0_scratch0

theorem slot_inb (k : Fin 8) (s : Fin 16) : ∀ a, (![k.val, s.val, 0, 0] : Fin 4 → Nat) a + S1x1x256x256.size a ≤ S8x16x256x256.size a := by
  intro a; have := k.isLt; have := s.isLt
  fin_cases a <;> simp [S1x1x256x256, S8x16x256x256] <;> omega
theorem sem_inb (k : Fin 8) (s : Fin 16) : ∀ a, (![k.val, s.val] : Fin 2 → Nat) a + S1x1.size a ≤ S8x16.size a := by
  intro a; have := k.isLt; have := s.isLt
  fin_cases a <;> simp [S1x1, S8x16] <;> omega

/-- Slot `(k, s)` of the communication buffer as a rectangle, and as the memref a transfer names. -/
abbrev slotR (k : Fin 8) (s : Fin 16) : Rect S8x16x256x256 := Rect.unit (s := S8x16x256x256) ![k.val, s.val, 0, 0] S1x1x256x256.size (slot_inb k s)
abbrev slotM (k : Fin 8) (s : Fin 16) : Memref sig .tc .vmem S256x256 .bf16 :=
  (cM.slice (slotR k s) (fun _ => rfl)).squeeze S256x256 squeezes_S1x1x256x256_S256x256

abbrev semR (k : Fin 8) (s : Fin 16) : Rect S8x16 := Rect.unit (s := S8x16) ![k.val, s.val] S1x1.size (sem_inb k s)
abbrev sendS (k : Fin 8) (s : Fin 16) : DmaSem sig := ((cc0_scratch1.slice (semR k s)).squeeze S_ squeezes_S1x1_S_).sem
abbrev recvS (k : Fin 8) (s : Fin 16) : DmaSem sig := ((cc0_scratch2.slice (semR k s)).squeeze S_ squeezes_S1x1_S_).sem
abbrev barS : Sem sig := (SemArray.scalar (sig.barrier 0 rfl) : Sems sig S_).sem

theorem sendS_val : ∀ (k : Fin 8) (s : Fin 16), (sendS k s).val = 5 + (16 * k.val + s.val) := by decide
theorem recvS_val : ∀ (k : Fin 8) (s : Fin 16), (recvS k s).val = 133 + (16 * k.val + s.val) := by decide

/-- The cells of one device: the barrier, the send semaphores, the receive semaphores. -/
abbrev Cix : Type := Option (Bool × Fin 8 × Fin 16)
def osem : Bool × Fin 8 × Fin 16 → SemLoc sig := fun b => if b.1 then .dma (recvS b.2.1 b.2.2) else .dma (sendS b.2.1 b.2.2)
def csem : Cix → SemLoc sig := fun | none => .reg barS | some b => osem b
abbrev kcell (x : Dev nD × Cix) : GSem nD τ sig := ((x.1 : Thread nD τ), csem x.2)

abbrev barCell (c : Dev nD) : GSem nD τ sig := ((c : Thread nD τ), .reg barS)
abbrev sendCell (c : Dev nD) (k : Fin 8) (s : Fin 16) : GSem nD τ sig := ((c : Thread nD τ), .dma (sendS k s))
abbrev recvCell (c : Dev nD) (k : Fin 8) (s : Fin 16) : GSem nD τ sig := ((c : Thread nD τ), .dma (recvS k s))

/-- The credit of one slot's transfer. -/
def N : ℕ := (slotM 0 0).view.dmaCredit
theorem N_eq (k : Fin 8) (s : Fin 16) : (slotM k s).view.dmaCredit = N := rfl
theorem N_pos : 0 < N := View.dmaCredit_pos _ (by decide)

/-! ## What the slots hold -/

/-- The staged inputs of device `c`: its block of `x`, its block of `w`, the two scales. -/
def xst (c : Dev nD) : (cc0_stg0_0 : Ref sig .tc).ty.Contents (Elt F) := (win0_0.blk (0 : Fin 1)).view.read (Elt F) ((s₀ m ρ).mem ((c : Thread nD τ).loc main_arg0))
def wst (c : Dev nD) : (cc0_stg1_0 : Ref sig .tc).ty.Contents (Elt F) := (win0_1.blk (0 : Fin 1)).view.read (Elt F) ((s₀ m ρ).mem ((c : Thread nD τ).loc main_arg1))
def ast (c : Dev nD) : (cc0_stg2_0 : Ref sig .tc).ty.Contents (Elt F) := (win0_2.blk (0 : Fin 1)).view.read (Elt F) ((s₀ m ρ).mem ((c : Thread nD τ).loc main_arg2))
def bst (c : Dev nD) : (cc0_stg3_0 : Ref sig .tc).ty.Contents (Elt F) := (win0_3.blk (0 : Fin 1)).view.read (Elt F) ((s₀ m ρ).mem ((c : Thread nD τ).loc main_arg3))

/-- 256 rows of the block of `x`, from the offsets `off`. -/
def xAt (c : Dev nD) (off : Fin 2 → ℕ) (h : ∀ a, off a + S256x256.size a ≤ S4096x256.size a) : Vec F S256x256 .fp8e5m2 :=
  (xM : Memref sig .tc .vmem S4096x256 .fp8e5m2).view.readAt (Elt F) (Rect.unit (s := S4096x256) off S256x256.size h).toLoadRect (xst m ρ c)
/-- 256 columns of the block of `w`, -/
def wAt (c : Dev nD) (off : Fin 2 → ℕ) (h : ∀ a, off a + S256x256.size a ≤ S256x2048.size a) : Vec F S256x256 .fp8e5m2 :=
  (wM : Memref sig .tc .vmem S256x2048 .fp8e5m2).view.readAt (Elt F) (Rect.unit (s := S256x2048) off S256x256.size h).toLoadRect (wst m ρ c)
/-- and 1024 of them. -/
def wHalf (c : Dev nD) (off : Fin 2 → ℕ) (h : ∀ a, off a + S256x1024.size a ≤ S256x2048.size a) : Vec F S256x1024 .fp8e5m2 :=
  (wM : Memref sig .tc .vmem S256x2048 .fp8e5m2).view.readAt (Elt F) (Rect.unit (s := S256x2048) off S256x1024.size h).toLoadRect (wst m ρ c)

theorem col_inb (k : Fin 8) : ∀ a, (![0, 256 * k.val] : Fin 2 → Nat) a + S256x256.size a ≤ S256x2048.size a := by
  intro a; have := k.isLt
  fin_cases a <;> simp [S256x256, S256x2048] <;> omega
theorem col_slices (j : ℕ) : S256x1024.Slices ![0, 256 * (j % 4)] S256x256 := by
  have h : ∀ i : Fin 4, S256x1024.Slices ![0, 256 * i.val] S256x256 := by decide
  exact h ⟨j % 4, by omega⟩

/-- The value stream `k` starts from on device `c`. -/
def seed (c : Dev nD) (k : Fin 8) : Vec F S1x1x256x256 .bf16 :=
  k0_pay2 (if k.val < 4 then xAt m ρ c (k0_off1 c) (k0_off1_inb c) else xAt m ρ c (k0_off2 c) (k0_off2_inb c))
    (wAt m ρ c ![0, 256 * k.val] (col_inb k))
/-- The two products of step `s`, for the streams running right and for those running left, -/
def mmR (c : Dev nD) (s : Fin 15) : FVec F S256x1024 .f32 :=
  k0_pay14 (xAt m ρ c (k0_off3 c (BitVec.ofNat 32 s.val)) (k0_off3_inb c s)) (wHalf m ρ c ![0, 0] inb_S256x2048_S256x1024_0_0)
def mmL (c : Dev nD) (s : Fin 15) : FVec F S256x1024 .f32 :=
  k0_pay15 (xAt m ρ c (k0_off4 c (BitVec.ofNat 32 s.val)) (k0_off4_inb c s)) (wHalf m ρ c ![0, 1024] inb_S256x2048_S256x1024_0_1024)
set_option backward.proofsInPublic true in
/-- and the part of them stream `k` adds at step `s`. -/
def part (c : Dev nD) (k : Fin 8) (s : ℕ) : FVec F S256x256 .f32 :=
  extractStridedSlice S256x256 ![0, 256 * (k.val % 4)] (if k.val < 4 then mmR m ρ c ⟨s % 15, by omega⟩ else mmL m ρ c ⟨s % 15, by omega⟩) (col_slices k.val)
/-- The value stream `k` carries out of device `c` at step `s`. -/
def acc (c : Dev nD) (k : Fin 8) : ℕ → Vec F S1x1x256x256 .bf16
  | 0 => seed m ρ c k
  | s + 1 => k0_pay24 (part m ρ c k s) (acc (src c k) k s)
termination_by structural s => s

/-- What device `c` receives of send `p`'s step and stream, -/
def accIn (c : Dev nD) (p : ℕ) : Vec F S1x1x256x256 .bf16 := acc m ρ (src c (kF p)) (kF p) (p / 8)
/-- and what it sends. -/
def accOut (c : Dev nD) (p : ℕ) : Vec F S1x1x256x256 .bf16 := acc m ρ c (kF p) (p / 8)

theorem accOut_add (c : Dev nD) (q : ℕ) : accOut m ρ c (q + 8) = k0_pay24 (part m ρ c (kF q) (q / 8)) (accIn m ρ c q) := by
  unfold accOut accIn
  rw [kF_add, show (q + 8) / 8 = q / 8 + 1 by omega]
  rfl
theorem accOut_seed (c : Dev nD) (p : ℕ) (h : p < 8) : accOut m ρ c p = seed m ρ c (kF p) := by
  unfold accOut
  rw [show p / 8 = 0 by omega]
  rfl
theorem accIn_dst (c : Dev nD) (p : ℕ) : accIn m ρ (dst c (kF p)) p = accOut m ρ c p := by
  unfold accOut accIn; rw [src_dst]

/-! ## Owning a slot -/

/-- Slot `(k, s)` of device `c` at contents `f`; -/
def slotPts (c : Dev nD) (k : Fin 8) (s : Fin 16) (f : Buf (Elt F) ((c : Thread nD τ).loc cc0_scratch0)) : sProp 𝕄 :=
  (slotM k s).view.loc (c : Thread nD τ) ↦[(slotM k s).view.set]{fullShare} f
/-- holding the value `V`; -/
def slotV (c : Dev nD) (k : Fin 8) (s : Fin 16) (V : Vec F S1x1x256x256 .bf16) : sProp 𝕄 :=
  iprop(∃ f : Buf (Elt F) ((c : Thread nD τ).loc cc0_scratch0), ⌜((cM : Memref sig .tc .vmem S8x16x256x256 .bf16).view.slice (slotR k s)).read (Elt F) f = V⌝ ∗ slotPts c k s f)
/-- holding anything. -/
def slotAny (c : Dev nD) (k : Fin 8) (s : Fin 16) : sProp 𝕄 :=
  iprop(∃ f : Buf (Elt F) ((c : Thread nD τ).loc cc0_scratch0), slotPts c k s f)

omit [FloatOps F] in
theorem slotV_any (c : Dev nD) (k : Fin 8) (s : Fin 16) (V : Vec F S1x1x256x256 .bf16) : slotV c k s V ⊢ slotAny c k s := by
  unfold slotV slotAny
  iintro ⟨%f, -, H⟩
  iexists f; iexact H

instance slotPts_storable (c : Dev nD) (k : Fin 8) (s : Fin 16) (f) : BI.Storable (upEmb : UEmb _ 𝕄) (slotPts (F := F) c k s f) := by
  unfold slotPts; infer_instance
instance slotV_storable (c : Dev nD) (k : Fin 8) (s : Fin 16) (V : Vec F S1x1x256x256 .bf16) : BI.Storable (upEmb : UEmb _ 𝕄) (slotV (F := F) c k s V) := by
  unfold slotV; infer_instance
instance slotAny_storable (c : Dev nD) (k : Fin 8) (s : Fin 16) : BI.Storable (upEmb : UEmb _ 𝕄) (slotAny (F := F) c k s) := by
  unfold slotAny; infer_instance

omit [FloatOps F] in
/-- A transfer of a slot into a slot carries the value over. -/
theorem slot_write (k k' : Fin 8) (s s' : Fin 16) (V : Vec F S1x1x256x256 .bf16) (fd fs : (cc0_scratch0 : Ref sig .tc).ty.Contents (Elt F))
    (h : ((cM : Memref sig .tc .vmem S8x16x256x256 .bf16).view.slice (slotR k s)).read (Elt F) fs = V) :
    ((cM : Memref sig .tc .vmem S8x16x256x256 .bf16).view.slice (slotR k' s')).read (Elt F)
      ((slotM k' s').view.write (Elt F) fd ((slotM k s).view.read (Elt F) fs) Finset.univ) = V := by
  subst h
  funext x
  have hw := congrFun (View.read_write_univ (v := (slotM k' s').view) (Val := Elt F) fd ((slotM k s).view.read (Elt F) fs))
    ((Shape.reshapeEquiv (squeezes_S1x1x256x256_S256x256).numel_eq).symm x)
  have e : Shape.reshapeEquiv (squeezes_S1x1x256x256_S256x256).numel_eq ((Shape.reshapeEquiv (squeezes_S1x1x256x256_S256x256).numel_eq).symm x) = x := Equiv.apply_symm_apply _ _
  have hr (k₀ : Fin 8) (s₀ : Fin 16) (f : (cc0_scratch0 : Ref sig .tc).ty.Contents (Elt F)) (y : S256x256.Idx) :
      (slotM k₀ s₀).view.read (Elt F) f y = ((cM : Memref sig .tc .vmem S8x16x256x256 .bf16).view.slice (slotR k₀ s₀)).read (Elt F) f (Shape.reshapeEquiv (squeezes_S1x1x256x256_S256x256).numel_eq y) := rfl
  rw [hr, hr, e] at hw
  exact hw

/-- The slots of device `d` that a neighbour fills: those of the streams running right, or of those running left. -/
def barPay (d : Dev nD) (right : Bool) : sProp 𝕄 :=
  bigSep ((Finset.range 120).filter fun p => decide ((kF p).val < 4) = right) fun p => slotAny d (kF p) (sN p)

instance barPay_storable (d : Dev nD) (b : Bool) : BI.Storable (upEmb : UEmb _ 𝕄) (barPay (F := F) d b) := by
  unfold barPay; infer_instance

/-! ## The schedule -/

/-- The stream and the slot in a semaphore's number, counted from its array's first. -/
def kOf (n : ℕ) : Fin 8 := ⟨n / 16 % 8, by omega⟩
def sOf (n : ℕ) : Fin 16 := ⟨n % 16, by omega⟩

theorem kOf_eq (k : Fin 8) (s : Fin 16) : kOf (16 * k.val + s.val) = k := Fin.ext (by have := k.isLt; have := s.isLt; simp only [kOf]; omega)
theorem sOf_eq (k : Fin 8) (s : Fin 16) : sOf (16 * k.val + s.val) = s := Fin.ext (by have := k.isLt; have := s.isLt; simp only [sOf]; omega)

/-- The duties of a semaphore of a device in its one round: two on the barrier, one on each semaphore a transfer uses. -/
def dutiesOf : SemLoc sig → Finset Bool
  | .reg b => if b = barS then Finset.univ else ∅
  | .dma q => if q.val < 5 then ∅ else if q.val < 133 then (if (sOf (q.val - 5)).val < 15 then {false} else ∅)
      else (if 0 < (sOf (q.val - 133)).val then {false} else ∅)

/-- What a duty of a semaphore of device `c` hands over. -/
def payOf (c : Dev nD) (d : Bool) : SemLoc sig → sProp 𝕄
  | .reg _ => if d then barPay (nxt c) true else barPay (prv c) false
  | .dma q => if q.val < 133 then slotV c (kOf (q.val - 5)) (sOf (q.val - 5)) (acc m ρ c (kOf (q.val - 5)) (sOf (q.val - 5)).val)
      else slotV c (kOf (q.val - 133)) (sOf (q.val - 133)) (acc m ρ (src c (kOf (q.val - 133))) (kOf (q.val - 133)) ((sOf (q.val - 133)).val - 1))

instance payOf_storable (c : Dev nD) (d : Bool) (sm : SemLoc sig) : BI.Storable (upEmb : UEmb _ 𝕄) (payOf (F := F) m ρ c d sm) := by
  cases sm <;> (unfold payOf; dsimp only; split <;> infer_instance)

/-- The units of a duty. -/
def unitsOf : SemLoc sig → ℕ
  | .reg _ => 1
  | .dma _ => N

/-- One round for every cell of a device's own processor. -/
def rd : Rounds.Schedule (GSem nD τ sig) Bool 𝕄 where
  duties g r := if r = 0 ∧ g.1.2 = .tc then dutiesOf g.2 else ∅
  unitless _ := False
  amount g _ _ := unitsOf g.2
  payload g _ d := payOf m ρ g.1.1 d g.2
  amount_pos g _ _ _ := by
    rcases g with ⟨t, _ | _⟩
    · exact Nat.one_pos
    · exact N_pos

instance rd_storable (g : GSem nD τ sig) (r : ℕ) (d : Bool) : BI.Storable (upEmb : UEmb _ 𝕄) ((rd (F := F) m ρ).payload g r d) :=
  payOf_storable m ρ g.1.1 d g.2

section Sched
variable (c : Dev nD) (k : Fin 8) (s : Fin 16)

theorem duties_bar : (rd (F := F) m ρ).duties (barCell c) 0 = Finset.univ := by
  dsimp only [rd]; rw [if_pos ⟨rfl, rfl⟩]; unfold dutiesOf; exact if_pos rfl
theorem duties_send (hs : s.val < 15) : (rd (F := F) m ρ).duties (sendCell c k s) 0 = {false} := by
  have hk := k.isLt; have h16 := s.isLt
  dsimp only [rd]; rw [if_pos ⟨rfl, rfl⟩]; unfold dutiesOf
  simp only []
  rw [sendS_val, if_neg (by omega), if_pos (by omega), Nat.add_sub_cancel_left, sOf_eq, if_pos hs]
theorem duties_recv (hs : 0 < s.val) : (rd (F := F) m ρ).duties (recvCell c k s) 0 = {false} := by
  have hk := k.isLt; have h16 := s.isLt
  dsimp only [rd]; rw [if_pos ⟨rfl, rfl⟩]; unfold dutiesOf
  simp only []
  rw [recvS_val, if_neg (by omega), if_neg (by omega), Nat.add_sub_cancel_left, sOf_eq, if_pos hs]
theorem duties_send_last (hs : ¬ s.val < 15) (r : ℕ) : (rd (F := F) m ρ).duties (sendCell c k s) r = ∅ := by
  have hk := k.isLt; have h16 := s.isLt
  dsimp only [rd]; split
  · unfold dutiesOf
    simp only []
    rw [sendS_val, if_neg (by omega), if_pos (by omega), Nat.add_sub_cancel_left, sOf_eq, if_neg hs]
  · rfl
theorem duties_recv_first (hs : ¬ 0 < s.val) (r : ℕ) : (rd (F := F) m ρ).duties (recvCell c k s) r = ∅ := by
  have hk := k.isLt; have h16 := s.isLt
  dsimp only [rd]; split
  · unfold dutiesOf
    simp only []
    rw [recvS_val, if_neg (by omega), if_neg (by omega), Nat.add_sub_cancel_left, sOf_eq, if_neg hs]
  · rfl
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := rfl
theorem amount_send (d : Bool) : (rd (F := F) m ρ).amount (sendCell c k s) 0 d = N := rfl
theorem amount_recv (d : Bool) : (rd (F := F) m ρ).amount (recvCell c k s) 0 d = N := rfl

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send (hs : s.val < 15) : (rd (F := F) m ρ).expect (sendCell c k s) 0 = N := by
  unfold Schedule.expect Schedule.amountOf; rw [duties_send m ρ c k s hs, Finset.sum_singleton, amount_send]
theorem expect_recv (hs : 0 < s.val) : (rd (F := F) m ρ).expect (recvCell c k s) 0 = N := by
  unfold Schedule.expect Schedule.amountOf; rw [duties_recv m ρ c k s hs, Finset.sum_singleton, amount_recv]

theorem payload_bar_true : (rd (F := F) m ρ).payload (barCell c) 0 true = barPay (nxt c) true := rfl
theorem payload_bar_false : (rd (F := F) m ρ).payload (barCell c) 0 false = barPay (prv c) false := rfl
theorem payload_send (d : Bool) : (rd (F := F) m ρ).payload (sendCell c k s) 0 d = slotV c k s (acc m ρ c k s.val) := by
  have hk := k.isLt; have h16 := s.isLt
  show payOf m ρ c d (.dma (sendS k s)) = _
  unfold payOf; simp only []
  rw [sendS_val, if_pos (by omega), Nat.add_sub_cancel_left, sOf_eq, kOf_eq]
theorem payload_recv (d : Bool) : (rd (F := F) m ρ).payload (recvCell c k s) 0 d = slotV c k s (acc m ρ (src c k) k (s.val - 1)) := by
  have hk := k.isLt; have h16 := s.isLt
  show payOf m ρ c d (.dma (recvS k s)) = _
  unfold payOf; simp only []
  rw [recvS_val, if_neg (by omega), Nat.add_sub_cancel_left, sOf_eq, kOf_eq]

theorem rest_bar : bigSep ((rd (F := F) m ρ).duties (barCell c) 0 \ ∅) (fun d => (rd (F := F) m ρ).payload (barCell c) 0 d)
    = iprop(barPay (prv c) false ∗ barPay (nxt c) true) := by
  rw [Finset.sdiff_empty, duties_bar, bigSep_univ_eq_bigSepL [false, true] (by decide) (by decide), bigSepL_cons_cons, bigSepL_singleton,
    payload_bar_false, payload_bar_true]
  rfl
theorem rest_send (hs : s.val < 15) : bigSep ((rd (F := F) m ρ).duties (sendCell c k s) 0 \ ∅) (fun d => (rd (F := F) m ρ).payload (sendCell c k s) 0 d)
    = slotV c k s (acc m ρ c k s.val) := by
  rw [Finset.sdiff_empty, duties_send m ρ c k s hs, bigSep_singleton, payload_send]
theorem rest_recv (hs : 0 < s.val) : bigSep ((rd (F := F) m ρ).duties (recvCell c k s) 0 \ ∅) (fun d => (rd (F := F) m ρ).payload (recvCell c k s) 0 d)
    = slotV c k s (acc m ρ (src c k) k (s.val - 1)) := by
  rw [Finset.sdiff_empty, duties_recv m ρ c k s hs, bigSep_singleton, payload_recv]

end Sched

/-! ## What a device owes; the levels -/

/-- What device `c` owes from send `p` on: the receive credit of each transfer still to be made. -/
def owedFrom (c : Dev nD) (p : ℕ) : CellTallies nD τ sig Unit :=
  ∑ j ∈ Finset.Ico p 120, tallyAt (recvCell (dst c (kF j)) (kF j) (sN j)) () N
/-- At launch it owes each neighbour's barrier a unit too. -/
def owedBar (c : Dev nD) : CellTallies nD τ sig Unit := owedFrom c 0 + tallyAt (barCell (nxt c)) () 1
def O₀ (c : Dev nD) : CellTallies nD τ sig Unit := owedBar c + tallyAt (barCell (prv c)) () 1

theorem Ico_step {a b : ℕ} (h : a < b) : Finset.Ico a b = insert a (Finset.Ico (a + 1) b) := by
  ext x; simp only [Finset.mem_Ico, Finset.mem_insert]; omega

theorem owedFrom_step (c : Dev nD) (p : ℕ) (h : p < 120) :
    owedFrom c p = owedFrom c (p + 1) + tallyAt (recvCell (dst c (kF p)) (kF p) (sN p)) () N := by
  unfold owedFrom
  rw [Ico_step h, Finset.sum_insert (by simp), add_comm]
theorem owedFrom_end (c : Dev nD) (p : ℕ) (h : 120 ≤ p) : owedFrom c p = 0 := by
  unfold owedFrom; rw [Finset.Ico_eq_empty (by omega), Finset.sum_empty]

def L (g : GSem nD τ sig) : Finset Unit := if g.1.2 = .tc then {()} else ∅
def lvOf : SemLoc sig → ℕ
  | .reg _ => 1
  | .dma q => if q.val < 133 then 0 else (q.val - 133) % 16 + 1
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 8) (s : Fin 16) : lv (recvCell c k s) () = s.val + 1 := by
  have hk := k.isLt; have h16 := s.isLt
  show lvOf (.dma (recvS k s)) = _
  unfold lvOf; simp only []
  rw [recvS_val, if_neg (by omega)]; omega
theorem lv_send (c : Dev nD) (k : Fin 8) (s : Fin 16) : lv (sendCell c k s) () = 0 := by
  have hk := k.isLt; have h16 := s.isLt
  show lvOf (.dma (sendS k s)) = _
  unfold lvOf; simp only []
  rw [sendS_val, if_pos (by omega)]

theorem owedFrom_pos {c : Dev nD} {p : ℕ} {g : GSem nD τ sig} {u : Unit} (h : 0 < owedFrom c p g u) :
    ∃ j, p ≤ j ∧ j < 120 ∧ g = recvCell (dst c (kF j)) (kF j) (sN j) := by
  unfold owedFrom at h
  rw [Finset.sum_apply, Finsupp.finset_sum_apply] at h
  obtain ⟨j, hj, hp⟩ := Finset.exists_ne_zero_of_sum_ne_zero (Nat.pos_iff_ne_zero.mp h)
  rw [tallyAt_apply] at hp
  refine ⟨j, (Finset.mem_Ico.mp hj).1, (Finset.mem_Ico.mp hj).2, ?_⟩
  by_contra hn
  exact hp (if_neg fun h' => hn h'.1)

/-- Waiting at a level below the slots still owed. -/
theorem mayWait_owed (c : Dev nD) (sm : SemLoc sig) (p : ℕ) (h : lvOf sm < p / 8 + 2) :
    (levAts L lv : sProp 𝕄) ⊢ MayWait (c : Thread nD τ) sm () (owedFrom c p) :=
  MayOwe.of_cut (L := L) (lev := lv) (lvOf sm) (fun x hx => by rw [Finset.mem_singleton.mp hx, L_tc]; exact Finset.mem_singleton_self _)
    (fun g u hg => by obtain ⟨j, _, _, rfl⟩ := owedFrom_pos hg; rw [L_tc]; exact Finset.mem_singleton_self _)
    (fun x hx => by rw [Finset.mem_singleton.mp hx]; exact le_refl _)
    (fun g u hg => by
      obtain ⟨j, h1, h2, rfl⟩ := owedFrom_pos hg
      rw [lv_recv]; simp only [sN]; omega)

theorem O₀_pos {c : Dev nD} {g : GSem nD τ sig} {u : Unit} (h : 0 < O₀ c g u) :
    0 < owedFrom c 0 g u ∨ g = barCell (nxt c) ∨ g = barCell (prv c) := by
  unfold O₀ owedBar at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (by omega)

/-- Waiting for the staging, at launch and after the end. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun x hx => by rw [Finset.mem_singleton.mp hx, L_tc]; exact Finset.mem_singleton_self _)
      (fun g u hg => by
        rcases O₀_pos hg with h | rfl | rfl
        · obtain ⟨j, _, _, rfl⟩ := owedFrom_pos h; rw [L_tc]; exact Finset.mem_singleton_self _
        · exact Finset.mem_singleton_self _
        · exact Finset.mem_singleton_self _)
      (fun x hx => by rw [Finset.mem_singleton.mp hx]; show lvOf (.dma q) ≤ 0; unfold lvOf; simp only []; rw [if_pos (by omega)])
      (fun g u hg => by
        rcases O₀_pos hg with h | rfl | rfl
        · obtain ⟨j, _, _, rfl⟩ := owedFrom_pos h; rw [lv_recv]; omega
        · exact Nat.one_pos
        · exact Nat.one_pos)
  · rw [MayWait_zero]; iintro -; iempintro

end Cert.Ring

end
-- ==== Proof.Events.lean ====
/-
# One event of the kernel at a time

The state a device is in between two operations, and what each kind of operation does to it, for every send `q` at once.
-/
module

public import proofs.«01_k».proof.Proof.Protocol

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Iterated conjunctions over intervals -/

theorem sep_Ico {a b : ℕ} (h : a < b) (Φ : ℕ → sProp 𝕄) :
    bigSep (Finset.Ico a b) Φ = iprop(Φ a ∗ bigSep (Finset.Ico (a + 1) b) Φ) := by
  rw [Ico_step h, bigSep_insert (by simp)]; rfl
theorem sep_Ico_last {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega,
    bigSep_insert (by simp)]; rfl
theorem sep_Ico_empty {a b : ℕ} (h : b ≤ a) (Φ : ℕ → sProp 𝕄) : bigSep (Finset.Ico a b) Φ = iprop(emp) := by
  rw [Finset.Ico_eq_empty (by omega), bigSep_empty]; rfl

/-! ## The records every device shares -/

variable (K : Dev nD × Cix → ℕ)

/-- Every cell's invariant, and that every cell has reached round 0. -/
def records : sProp 𝕄 :=
  iprop((bigSep Finset.univ fun x : Dev nD × Cix => cellInv ER (rd m ρ) (K x) (kcell x))
    ∗ bigSep Finset.univ fun x : Dev nD × Cix => reached ER (kcell x) 0)

instance records_persistent : BI.Persistent (records m ρ K) := by unfold records; infer_instance

theorem inv_at (x : Dev nD × Cix) : records m ρ K ⊢ cellInv ER (rd m ρ) (K x) (kcell x) := by
  unfold records
  iintro ⟨H, -⟩
  iapply (show (bigSep Finset.univ fun x : Dev nD × Cix => (cellInv ER (rd m ρ) (K x) (kcell x) : sProp 𝕄)) ⊢ cellInv ER (rd m ρ) (K x) (kcell x) from
    bigSep_elim (Finset.mem_univ x))
  iexact H
theorem reached_at (x : Dev nD × Cix) : records m ρ K ⊢ reached ER (kcell x) 0 := by
  unfold records
  iintro ⟨-, H⟩
  iapply (show (bigSep Finset.univ fun x : Dev nD × Cix => (reached ER (kcell x) 0 : sProp 𝕄)) ⊢ reached ER (kcell x) 0 from
    bigSep_elim (Finset.mem_univ x))
  iexact H

/-- The indices of a device's cells. -/
abbrev iB (c : Dev nD) : Dev nD × Cix := (c, none)
abbrev iS (c : Dev nD) (k : Fin 8) (s : Fin 16) : Dev nD × Cix := (c, some (false, k, s))
abbrev iR (c : Dev nD) (k : Fin 8) (s : Fin 16) : Dev nD × Cix := (c, some (true, k, s))

theorem inv_bar (c : Dev nD) : records m ρ K ⊢ cellInv ER (rd m ρ) (K (iB c)) (barCell c) := inv_at m ρ K (iB c)
theorem inv_send (c : Dev nD) (k : Fin 8) (s : Fin 16) : records m ρ K ⊢ cellInv ER (rd m ρ) (K (iS c k s)) (sendCell c k s) := inv_at m ρ K (iS c k s)
theorem inv_recv (c : Dev nD) (k : Fin 8) (s : Fin 16) : records m ρ K ⊢ cellInv ER (rd m ρ) (K (iR c k s)) (recvCell c k s) := inv_at m ρ K (iR c k s)
theorem reached_bar (c : Dev nD) : records m ρ K ⊢ reached ER (barCell c) 0 := reached_at m ρ K (iB c)
theorem reached_send (c : Dev nD) (k : Fin 8) (s : Fin 16) : records m ρ K ⊢ reached ER (sendCell c k s) 0 := reached_at m ρ K (iS c k s)
theorem reached_recv (c : Dev nD) (k : Fin 8) (s : Fin 16) : records m ρ K ⊢ reached ER (recvCell c k s) 0 := reached_at m ρ K (iR c k s)

/-! ## The state -/

/-- The semaphores no transfer uses. -/
def idle (c : Dev nD) : sProp 𝕄 := bigSep Finset.univ fun k : Fin 8 => iprop(semVal (sendCell c k 15) 0 ∗ semVal (recvCell c k 0) 0)

/-- The four staged inputs, and with them `Z`. -/
def inputsAnd (c : Dev nD) (Z : sProp 𝕄) : sProp 𝕄 :=
  iprop((((c : Thread nD τ).loc cc0_stg0_0) ↦{fullShare} xst m ρ c) ∗ (((c : Thread nD τ).loc cc0_stg1_0) ↦{fullShare} wst m ρ c)
    ∗ (((c : Thread nD τ).loc cc0_stg2_0) ↦{fullShare} ast m ρ c) ∗ (((c : Thread nD τ).loc cc0_stg3_0) ↦{fullShare} bst m ρ c) ∗ Z)

/-- The inputs, with the semaphores that are done with once the barrier is passed. -/
abbrev inputs (c : Dev nD) : sProp 𝕄 := inputsAnd m ρ c iprop(semVal (barCell c) 0 ∗ idle c)

/-- What every operation keeps: the records, the levels, the inputs. -/
def Base (c : Dev nD) : sProp 𝕄 := iprop(records m ρ K ∗ levAts L lv ∗ inputs m ρ c)

/-- What a device owes, whatever it has waited for. -/
def owesAny (c : Dev nD) (O : CellTallies nD τ sig Unit) : sProp 𝕄 := iprop(∃ W : Waits sig Unit, owes (c : Thread nD τ) O W)

/-- What send `p` needs besides the slot it sends: the slot it fills, and the two duties it pays. -/
def Uns (c : Dev nD) (p : ℕ) : sProp 𝕄 :=
  iprop(slotAny (dst c (kF p)) (kF p) (sN p) ∗ dutyTok ER (sendCell c (kF p) (sF p)) 0 false
    ∗ dutyTok ER (recvCell (dst c (kF p)) (kF p) (sN p)) 0 false)
/-- A transfer under way. -/
def Fly (c : Dev nD) (p : ℕ) : sProp 𝕄 := cred (tallyAt (sendCell c (kF p) (sF p)) () N)
/-- The receive still to be waited for, -/
def PenR (c : Dev nD) (p : ℕ) : sProp 𝕄 :=
  iprop(atPos ER (recvCell c (kF p) (sN p)) 0 ∅ 0 ∗ cred (tallyAt (recvCell c (kF p) (sN p)) () N))
/-- and with it the send. -/
def Pen (c : Dev nD) (p : ℕ) : sProp 𝕄 := iprop(atPos ER (sendCell c (kF p) (sF p)) 0 ∅ 0 ∗ PenR c p)
/-- The send waited for, -/
def DonS (c : Dev nD) (p : ℕ) : sProp 𝕄 := iprop(semVal (sendCell c (kF p) (sF p)) 0 ∗ slotAny c (kF p) (sF p))
/-- and the receive. -/
def Don (c : Dev nD) (p : ℕ) : sProp 𝕄 := iprop(semVal (recvCell c (kF p) (sN p)) 0 ∗ DonS c p)

/-- The one word of a scale's buffer. -/
abbrev oneR : Rect S1 := Rect.unit (s := S1) ![0] S1.size inb_S1_S1_0
abbrev oneX : oneR.shape.Idx := Shape.Idx.first (numel1_S1.symm ▸ Nat.one_pos)

/-- The product of the two scales. -/
def scale (c : Dev nD) : F .f32 :=
  k0_pay13 (((aM : Memref sig .tc .smem S1 .f32).access oneR).read (Elt F) (ast m ρ c) oneX)
    (((bM : Memref sig .tc .smem S1 .f32).access oneR).read (Elt F) (bst m ρ c) oneX)

/-- The columns of stream `k`, as a rectangle of the result. -/
abbrev colR (k : Fin 8) : Rect S256x2048 := Rect.unit (s := S256x2048) ![0, 256 * k.val] S256x256.size (col_inb k)

/-- The columns of the result stored after the last receive of a stream, `112 ≤ i`. -/
def outV (c : Dev nD) (i : ℕ) : FVec F S256x256 .f32 := k0_pay1 (scale m ρ c) (part m ρ c (kF i) (i / 8)) (accIn m ρ c i)

/-- The result so far, the streams before send `q` stored; their last slots. -/
def outP (c : Dev nD) (q : ℕ) : sProp 𝕄 :=
  iprop((∃ f : Buf (Elt F) ((c : Thread nD τ).loc cc0_stg4_0),
      ⌜∀ i, 112 ≤ i → i < q → ((oM : Memref sig .tc .vmem S256x2048 .f32).access (colR (kF i))).read (Elt F) f = outV m ρ c i⌝
        ∗ (((c : Thread nD τ).loc cc0_stg4_0) ↦{fullShare} f))
    ∗ bigSep (Finset.Ico 112 q) fun i => slotAny c (kF i) (sN i))

/-- Sends `0 … p - 1` made, their waits to come; the first slots of the streams not started. -/
def TR (c : Dev nD) (p : ℕ) : sProp 𝕄 :=
  iprop(outP m ρ c 0 ∗ bigSep (Finset.Ico p 120) (Uns c) ∗ bigSep (Finset.Ico 0 p) (Fly c) ∗ bigSep (Finset.Ico 0 120) (Pen c)
    ∗ bigSep (Finset.Ico (p + 1) 8) (fun i => slotAny c (kF i) (sF i)) ∗ owesAny c (owedFrom c p))
def T (c : Dev nD) (p : ℕ) : sProp 𝕄 :=
  iprop(outP m ρ c 0 ∗ bigSep (Finset.Ico p 120) (Uns c) ∗ bigSep (Finset.Ico 0 p) (Fly c) ∗ bigSep (Finset.Ico 0 120) (Pen c)
    ∗ bigSep (Finset.Ico p 8) (fun i => slotAny c (kF i) (sF i)) ∗ owesAny c (owedFrom c p))

/-- Sends `0 … q + 7` made, the waits of sends `0 … q - 1` done: the part the waits of send `q` leave alone, -/
def R (c : Dev nD) (q : ℕ) : sProp 𝕄 :=
  iprop(outP m ρ c q ∗ bigSep (Finset.Ico (q + 8) 120) (Uns c) ∗ bigSep (Finset.Ico (q + 1) (min (q + 8) 120)) (Fly c)
    ∗ bigSep (Finset.Ico (q + 1) 120) (Pen c) ∗ bigSep (Finset.Ico 0 q) (Don c) ∗ owesAny c (owedFrom c (q + 8)))
/-- all of it, -/
def W0 (c : Dev nD) (q : ℕ) : sProp 𝕄 :=
  iprop(outP m ρ c q ∗ bigSep (Finset.Ico (q + 8) 120) (Uns c) ∗ bigSep (Finset.Ico q (min (q + 8) 120)) (Fly c)
    ∗ bigSep (Finset.Ico q 120) (Pen c) ∗ bigSep (Finset.Ico 0 q) (Don c) ∗ owesAny c (owedFrom c (q + 8)))
/-- and after the wait for the send. -/
def W1 (c : Dev nD) (q : ℕ) : sProp 𝕄 := iprop(DonS c q ∗ PenR c q ∗ R m ρ c q)
/-- After both waits, besides the slot received. -/
def W2R (c : Dev nD) (q : ℕ) : sProp 𝕄 := iprop(Don c q ∗ R m ρ c q)

theorem W0_open (c : Dev nD) (q : ℕ) (h : q < 120) : W0 m ρ c q ⊢ iprop(Fly c q ∗ Pen c q ∗ R m ρ c q) := by
  unfold W0 R
  rw [sep_Ico (a := q) (b := min (q + 8) 120) (by omega), sep_Ico (a := q) (b := 120) h]
  iintro ⟨H1, H2, ⟨H3, H3'⟩, ⟨H4, H4'⟩, H5, H6⟩
  isplitl [H3]; · iexact H3
  isplitl [H4]; · iexact H4
  isplitl [H1]; · iexact H1
  isplitl [H2]; · iexact H2
  isplitl [H3']; · iexact H3'
  isplitl [H4']; · iexact H4'
  isplitl [H5]; · iexact H5
  iexact H6

theorem T_open (c : Dev nD) (p : ℕ) (h : p < 8) : T m ρ c p ⊢ iprop(slotAny c (kF p) (sF p) ∗ TR m ρ c p) := by
  unfold T TR
  rw [sep_Ico (a := p) (b := 8) h]
  iintro ⟨H1, H2, H3, H4, ⟨H5, H5'⟩, H6⟩
  isplitl [H5]; · iexact H5
  isplitl [H1]; · iexact H1
  isplitl [H2]; · iexact H2
  isplitl [H3]; · iexact H3
  isplitl [H4]; · iexact H4
  isplitl [H5']; · iexact H5'
  iexact H6

theorem T_W0 (c : Dev nD) : T m ρ c 8 ⊢ W0 m ρ c 0 := by
  unfold T W0
  rw [sep_Ico_empty (a := 8) (b := 8) (le_refl _), sep_Ico_empty (a := 0) (b := 0) (le_refl _)]
  iintro ⟨H1, H2, H3, H4, -, H6⟩
  isplitl [H1]; · iexact H1
  isplitl [H2]; · iexact H2
  isplitl [H3]; · iexact H3
  isplitl [H4]; · iexact H4
  isplitr; · iempintro
  iexact H6

/-! ## The operations -/

section Ops
variable {α : Type} {c : Dev nD} {Q : α → sProp (MT nD τ sig Unit (Elt F) ℕ UU ℕ)} {X : sProp (MT nD τ sig Unit (Elt F) ℕ UU ℕ)}

theorem step_ld_x {off : Fin 2 → ℕ} {h : ∀ a, off a + S256x256.size a ≤ S4096x256.size a} {hl : (xM : Memref sig .tc .vmem S4096x256 .fp8e5m2).view.LoadsAt (Rect.unit (s := S4096x256) off S256x256.size h).toLoadRect}
    {k : Vec F S256x256 .fp8e5m2 → Prog (TpuEff nD τ sig (Elt F) Λ₀ .tc) α}
    (H : iprop(Base m ρ K c ∗ X) ⊢ wpc c (k (xAt m ρ c off h)) Q) :
    iprop(Base m ρ K c ∗ X) ⊢ wpc c (.op (.load xM (Rect.unit (s := S4096x256) off S256x256.size h).toLoadRect hl) k) Q := by
  unfold Base inputs inputsAnd at *
  iintro ⟨⟨#Hr, #Hl, H1, H2, H3, H4, H5⟩, HX⟩
  iapply (wp_load 𝒱₀ (c : Thread nD τ) none Set.univ (m := xM) (Finset.subset_univ _)) $$ H1
  iintro H1
  iapply H
  isplitr [HX]
  · isplitr; · iexact Hr
    isplitr; · iexact Hl
    isplitl [H1]; · iexact H1
    isplitl [H2]; · iexact H2
    isplitl [H3]; · iexact H3
    isplitl [H4] <;> iassumption
  iexact HX

theorem step_ld_w {off : Fin 2 → ℕ} {h : ∀ a, off a + S256x256.size a ≤ S256x2048.size a} {hl : (wM : Memref sig .tc .vmem S256x2048 .fp8e5m2).view.LoadsAt (Rect.unit (s := S256x2048) off S256x256.size h).toLoadRect}
    {k : Vec F S256x256 .fp8e5m2 → Prog (TpuEff nD τ sig (Elt F) Λ₀ .tc) α}
    (H : iprop(Base m ρ K c ∗ X) ⊢ wpc c (k (wAt m ρ c off h)) Q) :
    iprop(Base m ρ K c ∗ X) ⊢ wpc c (.op (.load wM (Rect.unit (s := S256x2048) off S256x256.size h).toLoadRect hl) k) Q := by
  unfold Base inputs inputsAnd at *
  iintro ⟨⟨#Hr, #Hl, H1, H2, H3, H4, H5⟩, HX⟩
  iapply (wp_load 𝒱₀ (c : Thread nD τ) none Set.univ (m := wM) (Finset.subset_univ _)) $$ H2
  iintro H2
  iapply H
  isplitr [HX]
  · isplitr; · iexact Hr
    isplitr; · iexact Hl
    isplitl [H1]; · iexact H1
    isplitl [H2]; · iexact H2
    isplitl [H3]; · iexact H3
    isplitl [H4] <;> iassumption
  iexact HX

theorem step_ld_half {off : Fin 2 → ℕ} {h : ∀ a, off a + S256x1024.size a ≤ S256x2048.size a} {hl : (wM : Memref sig .tc .vmem S256x2048 .fp8e5m2).view.LoadsAt (Rect.unit (s := S256x2048) off S256x1024.size h).toLoadRect}
    {k : Vec F S256x1024 .fp8e5m2 → Prog (TpuEff nD τ sig (Elt F) Λ₀ .tc) α}
    (H : iprop(Base m ρ K c ∗ X) ⊢ wpc c (k (wHalf m ρ c off h)) Q) :
    iprop(Base m ρ K c ∗ X) ⊢ wpc c (.op (.load wM (Rect.unit (s := S256x2048) off S256x1024.size h).toLoadRect hl) k) Q := by
  unfold Base inputs inputsAnd at *
  iintro ⟨⟨#Hr, #Hl, H1, H2, H3, H4, H5⟩, HX⟩
  iapply (wp_load 𝒱₀ (c : Thread nD τ) none Set.univ (m := wM) (Finset.subset_univ _)) $$ H2
  iintro H2
  iapply H
  isplitr [HX]
  · isplitr; · iexact Hr
    isplitr; · iexact Hl
    isplitl [H1]; · iexact H1
    isplitl [H2]; · iexact H2
    isplitl [H3]; · iexact H3
    isplitl [H4] <;> iassumption
  iexact HX

theorem step_ld_a {hl : (aM : Memref sig .tc .smem S1 .f32).view.LoadsAt oneR.toLoadRect}
    {k : (oneR.shape.Idx → Elt F .f32) → Prog (TpuEff nD τ sig (Elt F) Λ₀ .tc) α}
    (H : iprop(Base m ρ K c ∗ X) ⊢ wpc c (k ((aM : Memref sig .tc .smem S1 .f32).view.readAt (Elt F) oneR.toLoadRect (ast m ρ c))) Q) :
    iprop(Base m ρ K c ∗ X) ⊢ wpc c (.op (.load aM oneR.toLoadRect hl) k) Q := by
  unfold Base inputs inputsAnd at *
  iintro ⟨⟨#Hr, #Hl, H1, H2, H3, H4, H5⟩, HX⟩
  iapply (wp_load 𝒱₀ (c : Thread nD τ) none Set.univ (m := aM) (Finset.subset_univ _)) $$ H3
  iintro H3
  iapply H
  isplitr [HX]
  · isplitr; · iexact Hr
    isplitr; · iexact Hl
    isplitl [H1]; · iexact H1
    isplitl [H2]; · iexact H2
    isplitl [H3]; · iexact H3
    isplitl [H4] <;> iassumption
  iexact HX

theorem step_ld_b {hl : (bM : Memref sig .tc .smem S1 .f32).view.LoadsAt oneR.toLoadRect}
    {k : (oneR.shape.Idx → Elt F .f32) → Prog (TpuEff nD τ sig (Elt F) Λ₀ .tc) α}
    (H : iprop(Base m ρ K c ∗ X) ⊢ wpc c (k ((bM : Memref sig .tc .smem S1 .f32).view.readAt (Elt F) oneR.toLoadRect (bst m ρ c))) Q) :
    iprop(Base m ρ K c ∗ X) ⊢ wpc c (.op (.load bM oneR.toLoadRect hl) k) Q := by
  unfold Base inputs inputsAnd at *
  iintro ⟨⟨#Hr, #Hl, H1, H2, H3, H4, H5⟩, HX⟩
  iapply (wp_load 𝒱₀ (c : Thread nD τ) none Set.univ (m := bM) (Finset.subset_univ _)) $$ H4
  iintro H4
  iapply H
  isplitr [HX]
  · isplitr; · iexact Hr
    isplitr; · iexact Hl
    isplitl [H1]; · iexact H1
    isplitl [H2]; · iexact H2
    isplitl [H3]; · iexact H3
    isplitl [H4] <;> iassumption
  iexact HX

theorem slot_set (k : Fin 8) (s : Fin 16) : (slotM k s).view.set = ((cM : Memref sig .tc .vmem S8x16x256x256 .bf16).access (slotR k s)).set := View.set_reshape ..

/-- A load of a slot held at `V` gives `V`. -/
theorem step_ld_slot {j : Fin 8} {s : Fin 16} {V : Vec F S1x1x256x256 .bf16} {hl : (cM : Memref sig .tc .vmem S8x16x256x256 .bf16).view.LoadsAt (slotR j s).toLoadRect}
    {k : Vec F S1x1x256x256 .bf16 → Prog (TpuEff nD τ sig (Elt F) Λ₀ .tc) α}
    (H : iprop(Base m ρ K c ∗ slotV c j s V ∗ X) ⊢ wpc c (k V) Q) :
    iprop(Base m ρ K c ∗ slotV c j s V ∗ X) ⊢ wpc c (.op (.load cM (slotR j s).toLoadRect hl) k) Q := by
  iintro ⟨HB, HV, HX⟩
  unfold slotV
  icases HV with ⟨%f, %hf, HV⟩
  unfold slotPts
  rw [slot_set]
  iapply (wp_load_rect 𝒱₀ (c : Thread nD τ) none Set.univ (m := cM) (r := slotR j s) (Finset.Subset.refl _)) $$ HV
  iintro HV
  rw [show ((cM : Memref sig .tc .vmem S8x16x256x256 .bf16).access (slotR j s)).read (Elt F) f = V from hf]
  iapply H
  isplitl [HB]; · iexact HB
  isplitl [HV]
  · unfold slotV; iexists f
    isplitr; · ipureintro; exact hf
    unfold slotPts; rw [slot_set]; iexact HV
  iexact HX

/-- A store to a slot leaves it at the value stored. -/
theorem step_st_slot {j : Fin 8} {s : Fin 16} {V V' : Vec F S1x1x256x256 .bf16} {hx : ((cM : Memref sig .tc .vmem S8x16x256x256 .bf16).access (slotR j s)).Stores Finset.univ} {hm : (Finset.univ : Finset (slotR j s).shape.Idx) = Finset.univ ∨ ∀ a, (slotR j s).stride a = 1}
    {k : PUnit → Prog (TpuEff nD τ sig (Elt F) Λ₀ .tc) α}
    (H : iprop(Base m ρ K c ∗ slotV c j s V' ∗ X) ⊢ wpc c (k ⟨⟩) Q) :
    iprop(Base m ρ K c ∗ slotV c j s V ∗ X) ⊢ wpc c (.op (.store cM (slotR j s) V' Finset.univ hx hm) k) Q := by
  iintro ⟨HB, HV, HX⟩
  unfold slotV
  icases HV with ⟨%f, -, HV⟩
  unfold slotPts
  rw [slot_set]
  iapply (wp_store 𝒱₀ (c : Thread nD τ) none Set.univ (m := cM) (r := slotR j s) (Mk := Finset.univ) (by rw [View.setOn_univ])) $$ HV
  iintro HV
  iapply H
  isplitl [HB]; · iexact HB
  isplitl [HV]
  · unfold slotV; iexists _
    isplitr; rotate_left
    · unfold slotPts; rw [slot_set]; iexact HV
    ipureintro; exact View.read_write_univ ..
  iexact HX

theorem sF_lt (q : ℕ) (h : q < 120) : (sF q).val < 15 := by simp only [sF]; omega
theorem sN_pos (q : ℕ) (h : q < 120) : 0 < (sN q).val := by simp only [sN]; omega
theorem sN_pred (q : ℕ) (h : q < 120) : (sN q).val - 1 = q / 8 := by simp only [sN]; omega
theorem sF_val (q : ℕ) (h : q < 120) : (sF q).val = q / 8 := by simp only [sF]; omega

/-- The wait for send `q`: the slot sent from comes back, and the cell closes. -/
theorem step_wait_send {q : ℕ} (h : q < 120) {h₁ : (slotM (kF q) (sN q)).view.WordExact} {h₂ : (slotM (kF q) (sF q)).view.WordExact}
    {k : PUnit → Prog (TpuEff nD τ sig (Elt F) Λ₀ .tc) α}
    (H : iprop(Base m ρ K c ∗ W1 m ρ c q) ⊢ wpc c (k ⟨⟩) Q) :
    iprop(Base m ρ K c ∗ W0 m ρ c q)
      ⊢ wpc c (.op (.waitDma2 (sendS (kF q) (sF q)) (slotM (kF q) (sN q)) (slotM (kF q) (sF q)) h₁ h₂) k) Q := by
  iintro ⟨HB, HW⟩
  ihave HW' := (W0_open m ρ c q h) $$ HW
  unfold Base Fly Pen R owesAny
  icases HB with ⟨#Hr, #Hl, Hin⟩
  icases HW' with ⟨HF, ⟨Hat, HP⟩, H1, H2, H3, H4, H5, ⟨%W, HO⟩⟩
  iapply (Rounds.wp_wait_rest_token 𝒱₀ ER (rd m ρ) (c : Thread nD τ) none (κ := K (iS c (kF q) (sF q)))
      (wpE_waitDma2_eq 𝒱₀ (c : Thread nD τ) none Set.univ) (Set.mem_univ _) () (O := owedFrom c (q + 8)) (W := W) (R := 0) (m := 0) (T := ∅)
      (by rw [Nat.zero_add]; exact (expect_send m ρ c _ _ (sF_lt q h)).symm)) $$ [HF HO Hat]
  · isplitr; · iapply (inv_send m ρ K c (kF q) (sF q)); iexact Hr
    isplitl [HF]; · iexact HF
    isplitl [HO]; · iexact HO
    isplitr
    · iapply (mayWait_owed c (.dma (sendS (kF q) (sF q))) (q + 8) (by
        have : lvOf (.dma (sendS (kF q) (sF q))) = 0 := lv_send c _ _
        omega)); iexact Hl
    iexact Hat
  iintro ⟨HO, Hat, -, Hpay⟩
  ihave Hs := (Entails.of_eq (rest_send m ρ c _ _ (sF_lt q h))) $$ Hpay
  ihave Hs' := (slotV_any c _ _ _) $$ Hs
  imod (Rounds.cell_close ER (rd m ρ) (Set.mem_univ (K (iS c (kF q) (sF q)))) (fun h => h) (R := 0 + 1) (duties_later m ρ (sendCell c (kF q) (sF q)))) $$ [Hat] with Hz
  · isplitr; · iapply (inv_send m ρ K c (kF q) (sF q)); iexact Hr
    iexact Hat
  iapply H
  unfold Base W1 DonS R owesAny
  isplitl [Hin]
  · isplitr; · iexact Hr
    isplitr; · iexact Hl
    iexact Hin
  isplitl [Hz Hs']
  · isplitl [Hz] <;> iassumption
  isplitl [HP]; · iexact HP
  isplitl [H1]; · iexact H1
  isplitl [H2]; · iexact H2
  isplitl [H3]; · iexact H3
  isplitl [H4]; · iexact H4
  isplitl [H5]; · iexact H5
  iexists _; iexact HO

/-- The wait for what comes in at send `q`'s step and stream: the slot filled, and the cell closes. -/
theorem step_wait_recv {q : ℕ} (h : q < 120) {h₁ : (slotM (kF q) (sF q)).view.WordExact} {h₂ : (slotM (kF q) (sN q)).view.WordExact}
    {k : PUnit → Prog (TpuEff nD τ sig (Elt F) Λ₀ .tc) α}
    (H : iprop(Base m ρ K c ∗ slotV c (kF q) (sN q) (accIn m ρ c q) ∗ W2R m ρ c q) ⊢ wpc c (k ⟨⟩) Q) :
    iprop(Base m ρ K c ∗ W1 m ρ c q)
      ⊢ wpc c (.op (.waitDma2 (recvS (kF q) (sN q)) (slotM (kF q) (sF q)) (slotM (kF q) (sN q)) h₁ h₂) k) Q := by
  iintro ⟨HB, HW'⟩
  unfold Base W1 PenR R owesAny
  icases HB with ⟨#Hr, #Hl, Hin⟩
  icases HW' with ⟨HD, ⟨Hat, HF⟩, H1, H2, H3, H4, H5, ⟨%W, HO⟩⟩
  iapply (Rounds.wp_wait_rest_token 𝒱₀ ER (rd m ρ) (c : Thread nD τ) none (κ := K (iR c (kF q) (sN q)))
      (wpE_waitDma2_eq 𝒱₀ (c : Thread nD τ) none Set.univ) (Set.mem_univ _) () (O := owedFrom c (q + 8)) (W := W) (R := 0) (m := 0) (T := ∅)
      (by rw [Nat.zero_add]; exact (expect_recv m ρ c _ _ (sN_pos q h)).symm)) $$ [HF HO Hat]
  · isplitr; · iapply (inv_recv m ρ K c (kF q) (sN q)); iexact Hr
    isplitl [HF]; · iexact HF
    isplitl [HO]; · iexact HO
    isplitr
    · iapply (mayWait_owed c (.dma (recvS (kF q) (sN q))) (q + 8) (by
        have : lvOf (.dma (recvS (kF q) (sN q))) = (sN q).val + 1 := lv_recv c _ _
        have := sN_pred q h; have := sN_pos q h; omega)); iexact Hl
    iexact Hat
  iintro ⟨HO, Hat, -, Hpay⟩
  ihave Hs := (Entails.of_eq (rest_recv m ρ c _ _ (sN_pos q h))) $$ Hpay
  rw [sN_pred q h]
  imod (Rounds.cell_close ER (rd m ρ) (Set.mem_univ (K (iR c (kF q) (sN q)))) (fun h => h) (R := 0 + 1) (duties_later m ρ (recvCell c (kF q) (sN q)))) $$ [Hat] with Hz
  · isplitr; · iapply (inv_recv m ρ K c (kF q) (sN q)); iexact Hr
    iexact Hat
  iapply H
  unfold Base W2R Don R owesAny accIn
  isplitl [Hin]
  · isplitr; · iexact Hr
    isplitr; · iexact Hl
    iexact Hin
  isplitl [Hs]; · iexact Hs
  isplitl [Hz HD]
  · isplitl [Hz] <;> iassumption
  isplitl [H1]; · iexact H1
  isplitl [H2]; · iexact H2
  isplitl [H3]; · iexact H3
  isplitl [H4]; · iexact H4
  isplitl [H5]; · iexact H5
  iexists _; iexact HO

/-- Send `p`: the slot sent from and the slot filled go into the transfer. -/
theorem wp_send_at {p : ℕ} (h : p < 120) {n : Dev nD} (hn : n = dst c (kF p))
    {hsc : (slotM (kF p) (sN p) : Memref sig (Dev.tc n : Thread nD τ).2.kind .vmem S256x256 .bf16).view.ref.isScScratch = false}
    {hsrc : (slotM (kF p) (sF p)).view.WordExact} {hdst : (slotM (kF p) (sN p)).view.WordExact}
    {hsem : DmaTarget.Typed .vmem (.dma (recvS (kF p) (sN p))) (.remote (Dev.tc n : Thread nD τ) (slotM (kF p) (sN p)) (.dma (sendS (kF p) (sF p))) hsc)}
    {k : PUnit → Prog (TpuEff nD τ sig (Elt F) Λ₀ .tc) α} :
    iprop(Base m ρ K c ∗ slotV c (kF p) (sF p) (accOut m ρ c p) ∗ Uns c p ∗ owesAny c (owedFrom c p))
      ⊢ iprop(((Base m ρ K c ∗ Fly c p ∗ owesAny c (owedFrom c (p + 1))) -∗ wpc c (k ⟨⟩) Q)
        -∗ wpc c (.op (.enqueueDma (slotM (kF p) (sF p)) (.remote (Dev.tc n : Thread nD τ) (slotM (kF p) (sN p)) (.dma (sendS (kF p) (sF p))) hsc)
            (.dma (recvS (kF p) (sN p))) hsrc hdst hsem) k) Q) := by
  subst hn
  iintro ⟨HB, HV, HU, HO⟩ Hk
  unfold Base Uns owesAny slotV slotAny
  icases HB with ⟨#Hr, #Hl, Hin⟩
  icases HV with ⟨%fs, %hf, HV⟩
  icases HU with ⟨⟨%fd, HD⟩, HtS, HtR⟩
  icases HO with ⟨%W, HO⟩
  unfold slotPts
  iapply (Rounds.wp_send_pointsTo 𝒱₀ ER (rd m ρ) (c : Thread nD τ) none (κ₁ := K (iS c (kF p) (sF p))) (κ₂ := K (iR (dst c (kF p)) (kF p) (sN p)))
    (r₁ := 0) (r₂ := 0) (d₁ := false) (d₂ := false) (c' := (dst c (kF p) : Thread nD τ)) (src := slotM (kF p) (sF p)) (dst := slotM (kF p) (sN p))
    (sS := .dma (sendS (kF p) (sF p))) (sem := .dma (recvS (kF p) (sN p))) (fs := fs) (fd := fd)
    (by rw [duties_send m ρ c _ _ (sF_lt p h)]; exact Finset.mem_singleton_self _) (by rw [duties_recv m ρ _ _ _ (sN_pos p h)]; exact Finset.mem_singleton_self _)
    () () N rfl (amount_send m ρ c _ _ false) (amount_recv m ρ _ _ _ false) (owedFrom c (p + 1)) (owedFrom_step c p h) (W := W)
    (by
      rw [payload_send]; unfold slotV slotPts
      iintro H; iexists fs
      isplitr; · ipureintro; rw [hf, sF_val p h]; rfl
      iexact H)
    (by
      rw [payload_recv, sN_pred p h]; unfold slotV slotPts
      iintro H; iexists _
      isplitr; rotate_left
      · iexact H
      ipureintro
      exact (slot_write (kF p) (kF p) (sF p) (sN p) _ fd fs hf).trans (accIn_dst m ρ c p).symm)) $$ [HV HD HO HtS HtR]
  · isplitr; · iapply (inv_send m ρ K c (kF p) (sF p)); iexact Hr
    isplitr; · iapply (inv_recv m ρ K (dst c (kF p)) (kF p) (sN p)); iexact Hr
    isplitl [HV]; · iexact HV
    isplitl [HD]; · iexact HD
    isplitl [HO]; · iexact HO
    isplitl [HtS]; · iexact HtS
    isplitr; · iapply (reached_send m ρ K c (kF p) (sF p)); iexact Hr
    isplitl [HtR]; · iexact HtR
    iapply (reached_recv m ρ K (dst c (kF p)) (kF p) (sN p)); iexact Hr
  iintro ⟨HF, HO⟩
  iapply Hk
  isplitl [Hin]
  · isplitr; · iexact Hr
    isplitr; · iexact Hl
    iexact Hin
  isplitl [HF]; · unfold Fly; iexact HF
  iexists _; iexact HO

/-- The first value of a stream is loaded over: the slot's own contents are never used. -/
theorem step_ld_seed {p : ℕ} (h : p < 8) {hl : (cM : Memref sig .tc .vmem S8x16x256x256 .bf16).view.LoadsAt (slotR (kF p) (sF p)).toLoadRect}
    {k : Vec F S1x1x256x256 .bf16 → Prog (TpuEff nD τ sig (Elt F) Λ₀ .tc) α}
    (H : ∀ V, iprop(Base m ρ K c ∗ slotV c (kF p) (sF p) V ∗ TR m ρ c p) ⊢ wpc c (k V) Q) :
    iprop(Base m ρ K c ∗ T m ρ c p) ⊢ wpc c (.op (.load cM (slotR (kF p) (sF p)).toLoadRect hl) k) Q := by
  iintro ⟨HB, HT⟩
  ihave HT' := (T_open m ρ c p h) $$ HT
  unfold slotAny
  icases HT' with ⟨⟨%f, HV⟩, HT⟩
  iapply (step_ld_slot m ρ K (H ((((cM : Memref sig .tc .vmem S8x16x256x256 .bf16).view.slice (slotR (kF p) (sF p))).read (Elt F) f))))
  isplitl [HB]; · iexact HB
  isplitl [HV]
  · unfold slotV; iexists f
    isplitr; · ipureintro; rfl
    iexact HV
  iexact HT

/-- A stream's first send. -/
theorem step_send_seed {p p' : ℕ} (hp' : p + 1 = p') (h : p < 8) {V : Vec F S1x1x256x256 .bf16} (hV : V = seed m ρ c (kF p)) {n : Dev nD} (hn : n = dst c (kF p))
    {hsc : (slotM (kF p) (sN p) : Memref sig (Dev.tc n : Thread nD τ).2.kind .vmem S256x256 .bf16).view.ref.isScScratch = false}
    {hsrc : (slotM (kF p) (sF p)).view.WordExact} {hdst : (slotM (kF p) (sN p)).view.WordExact}
    {hsem : DmaTarget.Typed .vmem (.dma (recvS (kF p) (sN p))) (.remote (Dev.tc n : Thread nD τ) (slotM (kF p) (sN p)) (.dma (sendS (kF p) (sF p))) hsc)}
    {k : PUnit → Prog (TpuEff nD τ sig (Elt F) Λ₀ .tc) α}
    (H : iprop(Base m ρ K c ∗ T m ρ c p') ⊢ wpc c (k ⟨⟩) Q) :
    iprop(Base m ρ K c ∗ slotV c (kF p) (sF p) V ∗ TR m ρ c p)
      ⊢ wpc c (.op (.enqueueDma (slotM (kF p) (sF p)) (.remote (Dev.tc n : Thread nD τ) (slotM (kF p) (sN p)) (.dma (sendS (kF p) (sF p))) hsc)
            (.dma (recvS (kF p) (sN p))) hsrc hdst hsem) k) Q := by
  subst hp' hV
  unfold TR
  rw [sep_Ico (a := p) (b := 120) (by omega), ← accOut_seed m ρ c p h]
  iintro ⟨HB, HV, H1, ⟨HU, H2⟩, H3, H4, H5, HO⟩
  iapply (wp_send_at m ρ K (by omega) hn) $$ [HB HV HU HO]
  · isplitl [HB]; · iexact HB
    isplitl [HV]; · iexact HV
    isplitl [HU] <;> iassumption
  iintro ⟨HB, HF, HO⟩
  iapply H
  isplitl [HB]; · iexact HB
  unfold T
  rw [sep_Ico_last (a := 0) (b := p) (by omega)]
  isplitl [H1]; · iexact H1
  isplitl [H2]; · iexact H2
  isplitl [HF H3]
  · isplitl [HF] <;> iassumption
  isplitl [H4]; · iexact H4
  isplitl [H5] <;> iassumption

/-- The send of the sum of what came in at `q` and the own part: send `q + 8`. -/
theorem step_send_next {q q' : ℕ} (hq' : q + 1 = q') (h : q < 112) {V : Vec F S1x1x256x256 .bf16}
    (hV : V = k0_pay24 (part m ρ c (kF q) (q / 8)) (accIn m ρ c q)) {n : Dev nD} (hn : n = dst c (kF (q + 8)))
    {hsc : (slotM (kF (q + 8)) (sN (q + 8)) : Memref sig (Dev.tc n : Thread nD τ).2.kind .vmem S256x256 .bf16).view.ref.isScScratch = false}
    {hsrc : (slotM (kF (q + 8)) (sF (q + 8))).view.WordExact} {hdst : (slotM (kF (q + 8)) (sN (q + 8))).view.WordExact}
    {hsem : DmaTarget.Typed .vmem (.dma (recvS (kF (q + 8)) (sN (q + 8)))) (.remote (Dev.tc n : Thread nD τ) (slotM (kF (q + 8)) (sN (q + 8))) (.dma (sendS (kF (q + 8)) (sF (q + 8)))) hsc)}
    {k : PUnit → Prog (TpuEff nD τ sig (Elt F) Λ₀ .tc) α}
    (H : iprop(Base m ρ K c ∗ W0 m ρ c q') ⊢ wpc c (k ⟨⟩) Q) :
    iprop(Base m ρ K c ∗ slotV c (kF q) (sN q) V ∗ W2R m ρ c q)
      ⊢ wpc c (.op (.enqueueDma (slotM (kF (q + 8)) (sF (q + 8))) (.remote (Dev.tc n : Thread nD τ) (slotM (kF (q + 8)) (sN (q + 8))) (.dma (sendS (kF (q + 8)) (sF (q + 8)))) hsc)
            (.dma (recvS (kF (q + 8)) (sN (q + 8)))) hsrc hdst hsem) k) Q := by
  subst hq' hV
  unfold W2R R
  rw [sep_Ico (a := q + 8) (b := 120) (by omega), ← accOut_add m ρ c q, ← kF_add q, ← sF_add q]
  iintro ⟨HB, HV, HD, H1, ⟨HU, H2⟩, H3, H4, H5, HO⟩
  iapply (wp_send_at m ρ K (by omega) hn) $$ [HB HV HU HO]
  · isplitl [HB]; · iexact HB
    isplitl [HV]; · iexact HV
    isplitl [HU] <;> iassumption
  iintro ⟨HB, HF, HO⟩
  iapply H
  isplitl [HB]; · iexact HB
  unfold W0
  rw [show q + 1 + 8 = q + 8 + 1 by omega, show min (q + 8 + 1) 120 = (q + 8) + 1 by omega, show min (q + 8) 120 = q + 8 by omega,
    sep_Ico_last (a := q + 1) (b := q + 8) (by omega), sep_Ico_last (a := 0) (b := q) (by omega)]
  unfold outP
  rw [sep_Ico_empty (a := 112) (b := q + 1) (by omega), sep_Ico_empty (a := 112) (b := q) (by omega)]
  icases H1 with ⟨⟨%f, -, H1⟩, -⟩
  isplitl [H1]
  · isplitl [H1]
    · iexists f
      isplitr; · ipureintro; intro i h1 h2; omega
      iexact H1
    iempintro
  isplitl [H2]; · iexact H2
  isplitl [HF H3]
  · isplitl [HF] <;> iassumption
  isplitl [H4]; · iexact H4
  isplitl [HD H5]
  · isplitl [HD] <;> iassumption
  iexact HO

/-- The columns about to be stored are loaded and not used. -/
theorem step_ld_out {q : ℕ} {V : Vec F S1x1x256x256 .bf16} {hl : (oM : Memref sig .tc .vmem S256x2048 .f32).view.LoadsAt (colR (kF q)).toLoadRect}
    {k : Vec F S256x256 .f32 → Prog (TpuEff nD τ sig (Elt F) Λ₀ .tc) α}
    (H : ∀ v, iprop(Base m ρ K c ∗ slotV c (kF q) (sN q) V ∗ W2R m ρ c q) ⊢ wpc c (k v) Q) :
    iprop(Base m ρ K c ∗ slotV c (kF q) (sN q) V ∗ W2R m ρ c q) ⊢ wpc c (.op (.load oM (colR (kF q)).toLoadRect hl) k) Q := by
  unfold W2R R outP at *
  iintro ⟨HB, HV, HD, ⟨⟨%f, %hf, H1⟩, H1'⟩, H2⟩
  iapply (wp_load 𝒱₀ (c : Thread nD τ) none Set.univ (m := oM) (Finset.subset_univ _)) $$ H1
  iintro H1
  iapply (H _)
  isplitl [HB]; · iexact HB
  isplitl [HV]; · iexact HV
  isplitl [HD]; · iexact HD
  isplitr [H2]
  · isplitl [H1]
    · iexists f
      isplitr; · ipureintro; exact hf
      iexact H1
    iexact H1'
  iexact H2

theorem kF_inj {i q : ℕ} (h1 : 112 ≤ i) (h2 : i < q) (h3 : q < 120) : (kF i).val ≠ (kF q).val := by
  have h : ∀ a b : Fin 8, a < b → (kF (112 + a.val)).val ≠ (kF (112 + b.val)).val := by decide
  have := h ⟨i - 112, by omega⟩ ⟨q - 112, by omega⟩ (by rw [Fin.lt_def]; simp only []; omega)
  simp only [] at this
  rwa [show 112 + (i - 112) = i by omega, show 112 + (q - 112) = q by omega] at this

/-- Two streams' columns are apart. -/
theorem col_disjoint {i j : Fin 8} (h : i.val ≠ j.val) :
    Disjoint ((oM : Memref sig .tc .vmem S256x2048 .f32).access (colR i)).set (((oM : Memref sig .tc .vmem S256x2048 .f32).access (colR j)).setOn Finset.univ) := by
  rw [View.setOn_univ, Finset.disjoint_left]
  intro x hx hy
  rw [View.set_slice_whole, Rect.mem_set_unit] at hx hy
  have hx1 := hx 1; have hy1 := hy 1
  simp only [S256x256, Matrix.cons_val_one, Matrix.cons_val_fin_one] at hx1 hy1
  omega

/-- A stream's columns of the result are stored. -/
theorem step_st_out {q q' : ℕ} (hq' : q + 1 = q') (h1 : 112 ≤ q) (h2 : q < 120) {V : Vec F S1x1x256x256 .bf16} {V' : FVec F S256x256 .f32}
    (hV : V' = outV m ρ c q)
    {hx : ((oM : Memref sig .tc .vmem S256x2048 .f32).access (colR (kF q))).Stores Finset.univ} {hm : (Finset.univ : Finset (colR (kF q)).shape.Idx) = Finset.univ ∨ ∀ a, (colR (kF q)).stride a = 1}
    {k : PUnit → Prog (TpuEff nD τ sig (Elt F) Λ₀ .tc) α}
    (H : iprop(Base m ρ K c ∗ W0 m ρ c q') ⊢ wpc c (k ⟨⟩) Q) :
    iprop(Base m ρ K c ∗ slotV c (kF q) (sN q) V ∗ W2R m ρ c q) ⊢ wpc c (.op (.store oM (colR (kF q)) V' Finset.univ hx hm) k) Q := by
  subst hq' hV
  unfold W2R R outP
  rw [sep_Ico_empty (a := q + 8) (b := 120) (by omega), owedFrom_end c (q + 8) (by omega)]
  iintro ⟨HB, HV, HD, ⟨⟨%f, %hf, H1⟩, H1'⟩, -, H3, H4, H5, HO⟩
  ihave HV' := (slotV_any c _ _ _) $$ HV
  iapply (wp_store 𝒱₀ (c : Thread nD τ) none Set.univ (m := oM) (r := colR (kF q)) (Mk := Finset.univ) (Finset.subset_univ _)) $$ H1
  iintro H1
  iapply H
  isplitl [HB]; · iexact HB
  unfold W0 outP
  rw [sep_Ico_empty (a := q + 1 + 8) (b := 120) (by omega), show min (q + 1 + 8) 120 = min (q + 8) 120 by omega,
    owedFrom_end c (q + 1 + 8) (by omega),
    sep_Ico_last (a := 112) (b := q) (by omega), sep_Ico_last (a := 0) (b := q) (by omega)]
  isplitl [H1 HV' H1']
  · isplitl [H1]
    · iexists _
      isplitr; rotate_left
      · iexact H1
      ipureintro
      intro i hi1 hi2
      rcases Nat.lt_or_ge i q with hlt | hge
      · rw [← hf i hi1 hlt]
        exact View.read_slice_write_slice_of_disjoint _ _ _ _ _ (col_disjoint (kF_inj hi1 hlt h2))
      · obtain rfl : i = q := by omega
        exact View.read_write_univ ..
    isplitl [HV'] <;> iassumption
  isplitr; · iempintro
  isplitl [H3]; · iexact H3
  isplitl [H4]; · iexact H4
  isplitl [HD H5]
  · isplitl [HD] <;> iassumption
  iexact HO

/-! ## The start -/

/-- The two duties of each send. -/
def toks (c : Dev nD) (p : ℕ) : sProp 𝕄 :=
  iprop(dutyTok ER (sendCell c (kF p) (sF p)) 0 false ∗ dutyTok ER (recvCell (dst c (kF p)) (kF p) (sN p)) 0 false)

/-- What waits for the barrier to be passed. -/
def J (c : Dev nD) : sProp 𝕄 :=
  iprop(outP m ρ c 0 ∗ bigSep (Finset.Ico 0 120) (toks c) ∗ bigSep (Finset.Ico 0 120) (Pen c)
    ∗ bigSep (Finset.Ico 0 8) (fun i => slotAny c (kF i) (sF i)))

/-- The barrier's own cell, to be waited for. -/
def B (c : Dev nD) : sProp 𝕄 := iprop(atPos ER (barCell c) 0 ∅ 0 ∗ cred (tallyAt (barCell c) () 2))

/-- Before the barrier: as `Base`, the barrier's cell open. -/
def Base₀ (c : Dev nD) : sProp 𝕄 := iprop(records m ρ K ∗ levAts L lv ∗ inputsAnd m ρ c (idle c))
/-- What device `c` starts with, -/
def I0 (c : Dev nD) : sProp 𝕄 :=
  iprop((dutyTok ER (barCell (prv c)) 0 true ∗ barPay c true) ∗ (dutyTok ER (barCell (nxt c)) 0 false ∗ barPay c false) ∗ B c ∗ J m ρ c ∗ owesAny c (O₀ c))
/-- after its first signal -/
def I1 (c : Dev nD) : sProp 𝕄 :=
  iprop((dutyTok ER (barCell (nxt c)) 0 false ∗ barPay c false) ∗ B c ∗ J m ρ c ∗ owesAny c (owedBar c))
/-- and its second. -/
def I2 (c : Dev nD) : sProp 𝕄 := iprop(B c ∗ J m ρ c ∗ owesAny c (owedFrom c 0))

theorem step_device {k : Dev nD → Prog (TpuEff nD τ sig (Elt F) Λ₀ .tc) α} (H : X ⊢ wpc c (k c) Q) : X ⊢ wpc c (.op .deviceId k) Q := by
  rw [show (wpc c (.op .deviceId k) Q : sProp (MT nD τ sig Unit (Elt F) ℕ UU ℕ)) = wpc c (k c) Q from wp_deviceId ..]; exact H

/-- The signal to the left neighbour hands over the slots of the streams running right. -/
theorem step_signal_prv {n : Dev nD} (hn : n = prv c) {k : PUnit → Prog (TpuEff nD τ sig (Elt F) Λ₀ .tc) α}
    (H : iprop(Base₀ m ρ K c ∗ I1 m ρ c) ⊢ wpc c (k ⟨⟩) Q) :
    iprop(Base₀ m ρ K c ∗ I0 m ρ c) ⊢ wpc c (.op (.semSignal (n : Thread nD τ) barS (1#32 : BitVec 32).toInt) k) Q := by
  subst hn
  unfold I0 Base₀ owesAny
  iintro ⟨⟨#Hr, #Hl, Hin⟩, ⟨Ht, Hp⟩, H1, H2, H3, ⟨%W, HO⟩⟩
  iapply (Rounds.wp_signal 𝒱₀ ER (rd m ρ) (c : Thread nD τ) none (dst := (prv c : Thread nD τ)) (κ := K (iB (prv c)))
      (d := true) (by rw [duties_bar]; exact Finset.mem_univ _) ((amount_bar m ρ (prv c) true).trans (by decide)) () (owedBar c) rfl)
    $$ [HO Ht Hp]
  · isplitr; · iapply (inv_bar m ρ K (prv c)); iexact Hr
    isplitl [HO]; · iexact HO
    isplitl [Ht]; · iexact Ht
    isplitl [Hp]; · rw [payload_bar_true, nxt_prv]; iexact Hp
    iapply (reached_bar m ρ K (prv c)); iexact Hr
  iintro HO
  iapply H
  unfold Base₀ I1 owesAny
  isplitl [Hin]
  · isplitr; · iexact Hr
    isplitr; · iexact Hl
    iexact Hin
  isplitl [H1]; · iexact H1
  isplitl [H2]; · iexact H2
  isplitl [H3]; · iexact H3
  iexists _; iexact HO

/-- The signal to the right neighbour hands over the slots of the streams running left. -/
theorem step_signal_nxt {n : Dev nD} (hn : n = nxt c) {k : PUnit → Prog (TpuEff nD τ sig (Elt F) Λ₀ .tc) α}
    (H : iprop(Base₀ m ρ K c ∗ I2 m ρ c) ⊢ wpc c (k ⟨⟩) Q) :
    iprop(Base₀ m ρ K c ∗ I1 m ρ c) ⊢ wpc c (.op (.semSignal (n : Thread nD τ) barS (1#32 : BitVec 32).toInt) k) Q := by
  subst hn
  unfold I1 Base₀ owesAny
  iintro ⟨⟨#Hr, #Hl, Hin⟩, ⟨Ht, Hp⟩, H2, H3, ⟨%W, HO⟩⟩
  iapply (Rounds.wp_signal 𝒱₀ ER (rd m ρ) (c : Thread nD τ) none (dst := (nxt c : Thread nD τ)) (κ := K (iB (nxt c)))
      (d := false) (by rw [duties_bar]; exact Finset.mem_univ _) ((amount_bar m ρ (nxt c) false).trans (by decide)) () (owedFrom c 0) rfl)
    $$ [HO Ht Hp]
  · isplitr; · iapply (inv_bar m ρ K (nxt c)); iexact Hr
    isplitl [HO]; · iexact HO
    isplitl [Ht]; · iexact Ht
    isplitl [Hp]; · rw [payload_bar_false, prv_nxt]; iexact Hp
    iapply (reached_bar m ρ K (nxt c)); iexact Hr
  iintro HO
  iapply H
  unfold Base₀ I2 owesAny
  isplitl [Hin]
  · isplitr; · iexact Hr
    isplitr; · iexact Hl
    iexact Hin
  isplitl [H2]; · iexact H2
  isplitl [H3]; · iexact H3
  iexists _; iexact HO

/-- The slots the two neighbours hand over are those device `c` fills. -/
theorem barPay_join (c : Dev nD) : iprop(barPay (prv c) false ∗ barPay (nxt c) true)
    ⊢ (bigSep (Finset.Ico 0 120) fun p => slotAny (dst c (kF p)) (kF p) (sN p) : sProp (MT nD τ sig Unit (Elt F) ℕ UU ℕ)) := by
  rw [show Finset.Ico 0 120 = Finset.range 120 from (Finset.range_eq_Ico ..).symm,
    bigSep_filter_split (Finset.range 120) (fun p => decide ((kF p).val < 4) = true)]
  show _ ⊢ iprop(_ ∗ _)
  unfold barPay
  iintro ⟨H1, H2⟩
  isplitl [H2]
  · iapply (Entails.of_eq (bigSep_congr fun p hp => ?_)) $$ H2
    have h := of_decide_eq_true (Finset.mem_filter.mp hp).2
    unfold dst; rw [if_pos h]
  · rw [show (Finset.range 120).filter (fun p => ¬ decide ((kF p).val < 4) = true) = (Finset.range 120).filter (fun p => decide ((kF p).val < 4) = false) from
      Finset.filter_congr fun p _ => by simp only [decide_eq_true_eq, decide_eq_false_iff_not]]
    iapply (Entails.of_eq (bigSep_congr fun p hp => ?_)) $$ H1
    have h := of_decide_eq_false (Finset.mem_filter.mp hp).2
    unfold dst; rw [if_neg h]

/-- The barrier passed, every slot to be filled is owned. -/
theorem step_wait_bar {k : PUnit → Prog (TpuEff nD τ sig (Elt F) Λ₀ .tc) α}
    (H : iprop(Base m ρ K c ∗ T m ρ c 0) ⊢ wpc c (k ⟨⟩) Q) :
    iprop(Base₀ m ρ K c ∗ I2 m ρ c) ⊢ wpc c (.op (.semWait barS (2#32 : BitVec 32).toInt) k) Q := by
  unfold I2 Base₀ owesAny inputsAnd B J
  iintro ⟨⟨#Hr, #Hl, H1, H2, H3, H4, H5⟩, ⟨Hat, HF⟩, ⟨H6, H7, H8, H9⟩, ⟨%W, HO⟩⟩
  iapply (Rounds.wp_wait_rest_token 𝒱₀ ER (rd m ρ) (c : Thread nD τ) none (κ := K (iB c))
      (wpE_semWait_eq 𝒱₀ (c : Thread nD τ) none Set.univ) (Set.mem_univ _) () (O := owedFrom c 0) (W := W) (R := 0) (m := 0) (T := ∅)
      (by rw [expect_bar]; decide)) $$ [HF HO Hat]
  · isplitr; · iapply (inv_bar m ρ K c); iexact Hr
    isplitl [HF]; · iexact HF
    isplitl [HO]; · iexact HO
    isplitr; · iapply (mayWait_owed c (.reg barS) 0 (by decide)); iexact Hl
    iexact Hat
  iintro ⟨HO, Hat, -, Hpay⟩
  ihave Hs := (Entails.of_eq (rest_bar m ρ c)) $$ Hpay
  ihave Hs' := (barPay_join c) $$ Hs
  imod (Rounds.cell_close ER (rd m ρ) (Set.mem_univ (K (iB c))) (fun h => h) (R := 0 + 1) (duties_later m ρ (barCell c))) $$ [Hat] with Hz
  · isplitr; · iapply (inv_bar m ρ K c); iexact Hr
    iexact Hat
  iapply H
  unfold Base inputs inputsAnd T owesAny
  isplitl [H1 H2 H3 H4 H5 Hz]
  · isplitr; · iexact Hr
    isplitr; · iexact Hl
    isplitl [H1]; · iexact H1
    isplitl [H2]; · iexact H2
    isplitl [H3]; · iexact H3
    isplitl [H4]; · iexact H4
    isplitl [Hz] <;> iassumption
  isplitl [H6]; · iexact H6
  isplitl [H7 Hs']
  · rw [show (Uns c : ℕ → sProp (MT nD τ sig Unit (Elt F) ℕ UU ℕ)) = fun p => iprop(slotAny (dst c (kF p)) (kF p) (sN p) ∗ toks c p) from rfl, bigSep_sep']
    isplitl [Hs'] <;> iassumption
  isplitr; · rw [sep_Ico_empty (a := 0) (b := 0) (le_refl _)]; iempintro
  isplitl [H8]; · iexact H8
  isplitl [H9]; · iexact H9
  iexists _; iexact HO

end Ops

end Cert.Ring

end
-- ==== Proof.Body.lean ====
/-
# The kernel's body
-/
module

public import proofs.«01_k».proof.Proof.Events

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cix → ℕ)

set_option maxHeartbeats 0 in
/-- The body, one operation after another: the barrier, the eight first sends, fourteen steps that pass each stream on, and
the step that stores the result. -/
theorem body_run (c : Dev nD) (Q : PUnit → sProp (MT nD τ sig Unit (Elt F) ℕ UU ℕ)) (H : iprop(Base m ρ K c ∗ W0 m ρ c 120) ⊢ |={Set.univ}=> Q ⟨⟩) :
    iprop(Base₀ m ρ K c ∗ I0 m ρ c)
      ⊢ wpc c (cc0_body xM (Memref.isWhole_whole _) wM (Memref.isWhole_whole _) aM (Memref.isWhole_whole _) bM (Memref.isWhole_whole _)
          oM (Memref.isWhole_whole _) cM (Memref.isWhole_whole _) cc0_scratch1 cc0_scratch2) Q := by
  rw [cc0_body_eq_skeleton]
  refine step_device ?_
  refine step_signal_prv m ρ K rfl ?_
  refine step_signal_nxt m ρ K rfl ?_
  refine step_wait_bar m ρ K ?_
  iterate 8
    refine step_ld_x m ρ K ?_
    refine step_ld_w m ρ K ?_
    refine step_ld_seed m ρ K (by decide) fun _ => ?_
    refine step_st_slot m ρ K ?_
    refine step_send_seed m ρ K (by simp only [Nat.reduceAdd]; rfl) (by decide) rfl rfl ?_
  refine (sep_mono_right (T_W0 m ρ c)).trans ?_
  refine step_ld_a m ρ K ?_
  refine step_ld_b m ρ K ?_
  iterate 14
    refine step_ld_x m ρ K ?_
    refine step_ld_half m ρ K ?_
    refine step_ld_x m ρ K ?_
    refine step_ld_half m ρ K ?_
    iterate 8
      refine step_wait_send m ρ K (by decide) ?_
      refine step_wait_recv m ρ K (by decide) ?_
      refine step_ld_slot m ρ K ?_
      refine step_ld_slot m ρ K ?_
      refine step_st_slot m ρ K ?_
      refine step_send_next m ρ K (by simp only [Nat.reduceAdd]; rfl) (by decide) rfl rfl ?_
  refine step_ld_x m ρ K ?_
  refine step_ld_half m ρ K ?_
  refine step_ld_x m ρ K ?_
  refine step_ld_half m ρ K ?_
  iterate 8
    refine step_wait_send m ρ K (by decide) ?_
    refine step_wait_recv m ρ K (by decide) ?_
    refine step_ld_slot m ρ K ?_
    refine step_ld_out m ρ K fun _ => ?_
    refine step_st_out m ρ K (by simp only [Nat.reduceAdd]; rfl) (by decide) (by decide) rfl ?_
  exact H.trans (Entails.of_eq (wp_ret ..).symm)

end Cert.Ring

end
-- ==== Proof.Slots.lean ====
/-
# Slots and semaphores, by send number

A stream and a slot are named by the number of the send that reads it. The iterated conjunctions over all slots of a
device, over its semaphores and over its communication buffer are rewritten over the numbers the run goes by.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Stream and slot of a number, and back -/

/-- A stream and a slot. -/
abbrev KS : Type := Fin 8 × Fin 16

set_option backward.proofsInPublic true in
/-- The number of the send that reads slot `s` of stream `k`. -/
def numOf (x : KS) : ℕ := 8 * x.2.val + (2 * (x.1.val % 4) + x.1.val / 4)

theorem numOf_lt (x : KS) : numOf x < 128 := by
  have := x.1.isLt; have := x.2.isLt; unfold numOf; omega
theorem at_numOf (x : KS) : (kF (numOf x), sF (numOf x)) = x := by
  have h : ∀ (k : Fin 8) (s : Fin 16), (kF (numOf (k, s)), sF (numOf (k, s))) = (k, s) := by decide
  exact h x.1 x.2
theorem numOf_at (p : ℕ) (h : p < 128) : numOf (kF p, sF p) = p := by
  have h' : ∀ p : Fin 128, numOf (kF p.val, sF p.val) = p.val := by decide
  exact h' ⟨p, h⟩

/-- A conjunction over the images of the numbers of a set is one over the numbers. -/
theorem sep_image {I : Type} [DecidableEq I] (f : ℕ → I) (s : Finset ℕ) (h : ∀ p ∈ s, ∀ q ∈ s, f p = f q → p = q) (Φ : I → sProp 𝕄) :
    bigSep (s.image f) Φ = bigSep s fun p => Φ (f p) := by
  induction s using Finset.induction_on with
  | empty => rfl
  | insert a s ha ih =>
    have hn : f a ∉ s.image f := fun hm => by
      obtain ⟨q, hq, e⟩ := Finset.mem_image.mp hm
      exact ha (h q (Finset.mem_insert_of_mem hq) a (Finset.mem_insert_self _ _) e ▸ hq)
    rw [Finset.image_insert, bigSep_insert hn, bigSep_insert ha,
      ih fun p hp q hq => h p (Finset.mem_insert_of_mem hp) q (Finset.mem_insert_of_mem hq)]

theorem sep_slots (Φ : KS → sProp 𝕄) : bigSep Finset.univ Φ = bigSep (Finset.Ico 0 128) fun p => Φ (kF p, sF p) := by
  rw [← sep_image (fun p => (kF p, sF p)) _ (fun p hp q hq e => by
    rw [← numOf_at p (Finset.mem_Ico.mp hp).2, ← numOf_at q (Finset.mem_Ico.mp hq).2]; exact congrArg numOf e) Φ]
  refine congrArg (fun s => bigSep s Φ) (Finset.ext fun x => ?_)
  exact ⟨fun _ => Finset.mem_image.mpr ⟨numOf x, Finset.mem_Ico.mpr ⟨Nat.zero_le _, numOf_lt x⟩, at_numOf x⟩, fun _ => Finset.mem_univ _⟩

theorem sep_Ico_split {a b d : ℕ} (h : a ≤ b) (h' : b ≤ d) (Φ : ℕ → sProp 𝕄) :
    bigSep (Finset.Ico a d) Φ = iprop(bigSep (Finset.Ico a b) Φ ∗ bigSep (Finset.Ico b d) Φ) := by
  rw [← Finset.Ico_union_Ico_eq_Ico h h', bigSep_union (Finset.disjoint_left.mpr fun x hx hy => by
    have := (Finset.mem_Ico.mp hx).2; have := (Finset.mem_Ico.mp hy).1; omega)]; rfl
theorem sep_Ico_shift (a b c : ℕ) (Φ : ℕ → sProp 𝕄) :
    bigSep (Finset.Ico (a + c) (b + c)) Φ = bigSep (Finset.Ico a b) fun p => Φ (p + c) := by
  rw [← sep_image (fun p => p + c) _ (fun p _ q _ e => Nat.add_right_cancel e) Φ]
  refine congrArg (fun s => bigSep s Φ) (Finset.ext fun x => ?_)
  simp only [Finset.mem_image, Finset.mem_Ico]
  exact ⟨fun h => ⟨x - c, by omega, by omega⟩, fun ⟨p, h, e⟩ => by omega⟩
theorem sep_streams (Φ : Fin 8 → sProp 𝕄) : bigSep Finset.univ Φ = bigSep (Finset.Ico 0 8) fun p => Φ (kF p) := by
  rw [← sep_image kF _ (fun p hp q hq e => by
    have hp := (Finset.mem_Ico.mp hp).2; have hq := (Finset.mem_Ico.mp hq).2
    rw [← numOf_at p (by omega), ← numOf_at q (by omega), e, show sF p = sF q from Fin.ext (by simp only [sF]; omega)]) Φ]
  refine congrArg (fun s => bigSep s Φ) (by decide)

/-- All slots: those read by a send, and the last of each stream; -/
theorem sep_read (Φ : KS → sProp 𝕄) :
    bigSep Finset.univ Φ = iprop((bigSep (Finset.Ico 0 120) fun p => Φ (kF p, sF p)) ∗ bigSep Finset.univ fun k => Φ (k, 15)) := by
  rw [sep_slots, sep_Ico_split (b := 120) (by omega) (by omega), sep_streams, show Finset.Ico 120 128 = Finset.Ico (0 + 120) (8 + 120) from rfl, sep_Ico_shift]
  refine congrArg (fun P => iprop(_ ∗ P)) (bigSep_congr fun p hp => congrArg Φ (Prod.ext (Fin.ext ?_) (Fin.ext ?_)))
  all_goals have := Finset.mem_Ico.mp hp; simp only [kF, sF]
  · omega
  · show _ = 15; omega
/-- those filled by a send, and the first of each stream. -/
theorem sep_filled (Φ : KS → sProp 𝕄) :
    bigSep Finset.univ Φ = iprop((bigSep Finset.univ fun k => Φ (k, 0)) ∗ bigSep (Finset.Ico 0 120) fun p => Φ (kF p, sN p)) := by
  rw [sep_slots, sep_Ico_split (b := 8) (by omega) (by omega), sep_streams, show Finset.Ico 8 128 = Finset.Ico (0 + 8) (120 + 8) from rfl, sep_Ico_shift]
  rw [bigSep_congr (Φ := fun p => Φ (kF (p + 8), sF (p + 8))) (Ψ := fun p => Φ (kF p, sN p)) fun p _ => by rw [kF_add, sF_add]]
  refine congrArg (fun P => iprop(P ∗ _)) (bigSep_congr fun p hp => congrArg Φ (Prod.ext rfl (Fin.ext ?_)))
  have := Finset.mem_Ico.mp hp; simp only [sF]; show _ = 0; omega

/-- A device's cells: the barrier, the send semaphores, the receive semaphores. -/
theorem sep_own (Φ : Bool × KS → sProp 𝕄) :
    bigSep Finset.univ Φ = iprop((bigSep Finset.univ fun x => Φ (false, x)) ∗ bigSep Finset.univ fun x => Φ (true, x)) := by
  rw [bigSep_univ_prod, bigSep_univ_eq_bigSepL [false, true] (by decide) (by decide)]; rfl
theorem sep_cells (Φ : Cix → sProp 𝕄) : bigSep Finset.univ Φ = iprop(Φ none ∗ bigSep Finset.univ fun b => Φ (some b)) := by
  rw [bigSep_univ_at _ none, show (Finset.univ.erase (none : Cix)) = Finset.univ.map Function.Embedding.some from by
    ext x; cases x <;> simp, bigSep_map]; rfl

/-- Two iterated conjunctions change places. -/
theorem sep_swap {I : Type} [Fintype I] [DecidableEq I] (s : Finset ℕ) (Φ : I → ℕ → sProp 𝕄) :
    (bigSep Finset.univ fun c => bigSep s (Φ c)) = bigSep s fun p => bigSep Finset.univ fun c => Φ c p := by
  induction s using Finset.induction_on with
  | empty =>
    rw [bigSep_empty]
    have h (t : Finset I) : bigSep t (fun _ => (BI.emp : sProp 𝕄)) = BI.emp := by
      induction t using Finset.induction_on with
      | empty => rfl
      | insert a t ha ih => rw [bigSep_insert ha, ih]; exact equiv_iff.mp emp_sep
    exact (bigSep_congr fun c _ => bigSep_empty).trans (h _)
  | insert a s ha ih =>
    have e : (bigSep Finset.univ fun c => bigSep (insert a s) (Φ c)) = bigSep Finset.univ fun c => iprop(Φ c a ∗ bigSep s (Φ c)) :=
      bigSep_congr fun c _ => bigSep_insert ha
    rw [e, bigSep_sep', ih, bigSep_insert ha]
    rfl

/-! ## The communication buffer as its slots -/

theorem slot_cells (k : Fin 8) (s : Fin 16) : (slotM k s).view.set = (slotR k s).set := (slot_set k s).trans (View.set_slice_whole ..)

theorem mem_slot (k : Fin 8) (s : Fin 16) (i : S8x16x256x256.Idx) : i ∈ (slotR k s).set ↔ (i 0).val = k.val ∧ (i 1).val = s.val := by
  rw [Rect.mem_set_unit]
  have h2 : (i 2).val < 256 := (i 2).isLt
  have h3 : (i 3).val < 256 := (i 3).isLt
  constructor
  · intro h
    have a := h 0; have b := h 1
    simp [S1x1x256x256] at a b
    omega
  · rintro ⟨a, b⟩ j
    fin_cases j <;> simp [S1x1x256x256] <;> omega

theorem slots_cover : (Finset.univ : Finset KS).biUnion (fun x => (slotR x.1 x.2).set) = Finset.univ := by
  ext i
  simp only [Finset.mem_biUnion, Finset.mem_univ, true_and, iff_true]
  exact ⟨(⟨(i 0).val, (i 0).isLt⟩, ⟨(i 1).val, (i 1).isLt⟩), (mem_slot _ _ i).mpr ⟨rfl, rfl⟩⟩
theorem slots_disjoint : ∀ x ∈ (Finset.univ : Finset KS), ∀ y ∈ (Finset.univ : Finset KS), x ≠ y → Disjoint (slotR x.1 x.2).set (slotR y.1 y.2).set := by
  intro x _ y _ h
  refine Finset.disjoint_left.mpr fun i hx hy => h ?_
  have h1 := (mem_slot _ _ i).mp hx; have h2 := (mem_slot _ _ i).mp hy
  exact Prod.ext (Fin.ext (h1.1.symm.trans h2.1)) (Fin.ext (h1.2.symm.trans h2.2))

theorem slots_split (c : Dev nD) (f : Buf (Elt F) ((c : Thread nD τ).loc cc0_scratch0)) :
    (((c : Thread nD τ).loc cc0_scratch0) ↦{fullShare} f : sProp 𝕄) ⊢ bigSep Finset.univ fun x : KS => slotAny c x.1 x.2 := by
  have h : (((c : Thread nD τ).loc cc0_scratch0) ↦[(Finset.univ : Finset KS).biUnion fun x => (slotR x.1 x.2).set]{fullShare} f : sProp 𝕄)
      = bigSep Finset.univ fun x : KS => ((c : Thread nD τ).loc cc0_scratch0) ↦[(slotR x.1 x.2).set]{fullShare} f := pointsTo_biUnion _ _ slots_disjoint
  rw [slots_cover] at h
  refine (Entails.of_eq h).trans (bigSep_mono fun x _ => ?_)
  unfold slotAny slotPts
  rw [slot_cells]
  show (((c : Thread nD τ).loc cc0_scratch0) ↦[(slotR x.1 x.2).set]{fullShare} f : sProp 𝕄)
    ⊢ iprop(∃ f, ((c : Thread nD τ).loc cc0_scratch0) ↦[(slotR x.1 x.2).set]{fullShare} f)
  iintro H
  iexists f; iexact H

theorem slots_join (c : Dev nD) :
    (bigSep Finset.univ fun x : KS => slotAny (F := F) c x.1 x.2) ⊢ iprop(∃ f : Buf (Elt F) ((c : Thread nD τ).loc cc0_scratch0), ((c : Thread nD τ).loc cc0_scratch0) ↦{fullShare} f) := by
  have h (fs : KS → Buf (Elt F) ((c : Thread nD τ).loc cc0_scratch0)) :
      (bigSep Finset.univ fun x : KS => slotPts (F := F) c x.1 x.2 (fs x))
        ⊢ bigSep Finset.univ fun x : KS => (((c : Thread nD τ).loc cc0_scratch0) ↦[(slotR x.1 x.2).set]{fullShare} fs x : sProp 𝕄) :=
    bigSep_mono fun x _ => by unfold slotPts; rw [slot_cells]; exact Entails.refl _
  have h' (fs : KS → Buf (Elt F) ((c : Thread nD τ).loc cc0_scratch0)) :
      (bigSep Finset.univ fun x : KS => (((c : Thread nD τ).loc cc0_scratch0) ↦[(slotR x.1 x.2).set]{fullShare} fs x : sProp 𝕄))
        ⊢ iprop(∃ g, ⌜∀ x ∈ (Finset.univ : Finset KS), ∀ i ∈ (slotR x.1 x.2).set, g i = fs x i⌝
          ∗ ((c : Thread nD τ).loc cc0_scratch0) ↦[(Finset.univ : Finset KS).biUnion fun x => (slotR x.1 x.2).set]{fullShare} g) :=
    pointsTo_biUnion_join _ _ fs (fs (0, 0)) slots_disjoint
  rw [slots_cover] at h'
  unfold slotAny
  iintro H
  ihave H1 := (BI.bigSep_exists_pi Finset.univ (fun (x : KS) (f : Buf (Elt F) ((c : Thread nD τ).loc cc0_scratch0)) => slotPts (F := F) c x.1 x.2 f)) $$ H
  icases H1 with ⟨%fs, H1⟩
  ihave H2 := (h fs) $$ H1
  ihave H3 := (h' fs) $$ H2
  icases H3 with ⟨%g, -, H3⟩
  iexists g; iexact H3

/-- The buffer at the start: the first slots of the streams stay, the others go to the neighbours that fill them. -/
theorem slots_deal (c : Dev nD) :
    (bigSep Finset.univ fun x : KS => slotAny (F := F) c x.1 x.2)
      ⊢ iprop((bigSep (Finset.Ico 0 8) fun i => slotAny c (kF i) (sF i)) ∗ barPay c true ∗ barPay c false) := by
  rw [sep_filled, sep_streams, show Finset.Ico 0 120 = Finset.range 120 from (Finset.range_eq_Ico ..).symm,
    bigSep_filter_split (Finset.range 120) (fun p => decide ((kF p).val < 4) = true)]
  show iprop(_ ∗ (_ ∗ _)) ⊢ _
  unfold barPay
  iintro ⟨H0, H1, H2⟩
  isplitl [H0]
  · iapply (show (bigSep (Finset.Ico 0 8) fun p => slotAny (F := F) c (kF p) 0) ⊢ bigSep (Finset.Ico 0 8) fun i => slotAny c (kF i) (sF i) from
      Entails.of_eq (bigSep_congr fun p hp => by
        rw [show sF p = 0 from Fin.ext (by have := Finset.mem_Ico.mp hp; simp only [sF]; show _ = 0; omega)]))
    iexact H0
  isplitl [H1]; · iexact H1
  rw [Finset.filter_congr (q := fun p => ¬ decide ((kF p).val < 4) = true) (by simp)]
  iexact H2

/-- The buffer at the end: the slots sent from, and the last of each stream. -/
theorem slots_back (c : Dev nD) :
    iprop((bigSep (Finset.Ico 0 120) fun p => slotAny (F := F) c (kF p) (sF p)) ∗ bigSep (Finset.Ico 112 120) fun i => slotAny c (kF i) (sN i))
      ⊢ bigSep Finset.univ fun x : KS => slotAny (F := F) c x.1 x.2 := by
  rw [sep_slots, sep_Ico_split (a := 0) (b := 120) (d := 128) (by omega) (by omega), show Finset.Ico 120 128 = Finset.Ico (112 + 8) (120 + 8) from rfl, sep_Ico_shift]
  refine sep_mono_right (Entails.of_eq (bigSep_congr fun p _ => ?_))
  rw [kF_add, sF_add]

end Cert.Ring

end
-- ==== Proof.Launch.lean ====
/-
# The launch

What the body starts from and ends with, the ghost state and the credit every device is dealt, and the run of `@main`.
-/
module

public import proofs.«01_k».proof.Proof.Slots

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are distinct -/

theorem osem_injective : Function.Injective osem := by
  rintro ⟨b, k, s⟩ ⟨b', k', s'⟩ h
  have hk := k.isLt; have hs := s.isLt; have hk' := k'.isLt; have hs' := s'.isLt
  have hv (q q' : DmaSem sig) (e : (SemLoc.dma q : SemLoc sig) = .dma q') : q.val = q'.val := by cases e; rfl
  cases b <;> cases b' <;> have e := hv _ _ h <;> simp only [sendS_val, recvS_val] at e
  · rw [Fin.ext (show k.val = k'.val by omega), Fin.ext (show s.val = s'.val by omega)]
  · omega
  · omega
  · rw [Fin.ext (show k.val = k'.val by omega), Fin.ext (show s.val = s'.val by omega)]

theorem osem_ne_bar (b : Bool × KS) : osem b ≠ .reg barS := by
  rcases b with ⟨_ | _, k, s⟩ <;> exact fun h => by cases h

theorem csem_injective : Function.Injective csem := by
  rintro (_ | b) (_ | b') h
  · rfl
  · exact absurd h.symm (osem_ne_bar b')
  · exact absurd h (osem_ne_bar b)
  · exact congrArg some (osem_injective h)

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]

theorem recvCell_inj {a b : Dev nD} {k k' : Fin 8} {s s' : Fin 16} (h : recvCell a k s = recvCell b k' s') : a = b ∧ (k, s) = (k', s') := by
  have e := kcell_injective (a₁ := iR a k s) (a₂ := iR b k' s') h
  simpa using e
theorem barCell_inj {a b : Dev nD} (h : barCell a = barCell b) : a = b :=
  congrArg (fun g : GSem nD τ sig => g.1.1) h
theorem recv_ne_bar (a b : Dev nD) (k : Fin 8) (s : Fin 16) : recvCell a k s ≠ barCell b := fun h => osem_ne_bar (true, k, s) (congrArg Prod.snd h)

theorem filled_inj {p q : ℕ} (hp : p < 120) (hq : q < 120) (h : (kF p, sN p) = (kF q, sN q)) : p = q := by
  have e : numOf (kF (p + 8), sF (p + 8)) = numOf (kF (q + 8), sF (q + 8)) := by rw [kF_add, sF_add, kF_add, sF_add, h]
  rw [numOf_at _ (by omega), numOf_at _ (by omega)] at e
  omega

theorem ownSemFacts : Pipeline.OwnSemFacts cfg0.spec osem where
  isScoped := by
    rintro ⟨b, k, s⟩
    have h : ∀ (b : Bool) (k : Fin 8) (s : Fin 16), (osem (b, k, s)).isScoped .tc = true := by decide
    exact h b k s
  inj := osem_injective
  disj := by
    rintro ⟨b, k, s⟩ w j h
    have hw : ∀ (w : Fin 5) (j : Fin (cfg0.spec w).nbuf), ((cfg0.spec w).sem j).val < 5 := by decide
    have hv (q q' : DmaSem sig) (e : (SemLoc.dma q : SemLoc sig) = .dma q') : q.val = q'.val := by cases e; rfl
    have h5 := hw w j
    cases b <;> have e := hv _ _ h <;> simp only [sendS_val, recvS_val] at e <;> omega

/-! ## The result -/

/-- A row and a column of a block. -/
def cell (r q : Fin 256) : S256x256.Idx := fun a => match a with
  | ⟨0, _⟩ => r
  | ⟨1, _⟩ => q

set_option backward.proofsInPublic true in
/-- The number of stream `k`'s last receive. -/
def lastOf (k : Fin 8) : ℕ := 112 + (2 * (k.val % 4) + k.val / 4)
theorem lastOf_range : ∀ k : Fin 8, 112 ≤ lastOf k ∧ lastOf k < 120 ∧ kF (lastOf k) = k := by decide

/-- The result of device `c`: column block `k` is the last value of stream `k`. -/
def outB (c : Dev nD) : (cc0_stg4_0 : Ref sig .tc).ty.Contents (Elt F) := fun i =>
  outV m ρ c (lastOf ⟨(i 1).val / 256 % 8, Nat.mod_lt _ (by decide)⟩) (cell ⟨(i 0).val % 256, Nat.mod_lt _ (by decide)⟩ ⟨(i 1).val % 256, Nat.mod_lt _ (by decide)⟩)

theorem outB_of (c : Dev nD) (f : (cc0_stg4_0 : Ref sig .tc).ty.Contents (Elt F))
    (h : ∀ i, 112 ≤ i → i < 120 → ((oM : Memref sig .tc .vmem S256x2048 .f32).access (colR (kF i))).read (Elt F) f = outV m ρ c i) : f = outB m ρ c := by
  funext i
  have h0 : (i 0).val < 256 := (i 0).isLt
  have h1 : (i 1).val < 2048 := (i 1).isLt
  unfold outB
  obtain ⟨l1, l2, l3⟩ := lastOf_range ⟨(i 1).val / 256 % 8, Nat.mod_lt _ (by decide)⟩
  rw [← h _ l1 l2, l3]
  show f i = f ((colR ⟨(i 1).val / 256 % 8, _⟩).emb (cell ⟨(i 0).val % 256, _⟩ ⟨(i 1).val % 256, _⟩))
  refine congrArg f (funext fun a => Fin.ext ?_)
  rw [Rect.emb_apply]
  fin_cases a
  · show (i 0).val = 0 + 1 * ((i 0).val % 256); omega
  · show (i 1).val = 256 * ((i 1).val / 256 % 8) + 1 * ((i 1).val % 256); omega

/-! ## What a device starts from and ends with -/

/-- The tokens of the duties device `c` pays. -/
def payToks (c : Dev nD) : sProp 𝕄 :=
  iprop(dutyTok ER (barCell (prv c)) 0 true ∗ dutyTok ER (barCell (nxt c)) 0 false ∗ bigSep (Finset.Ico 0 120) (toks c))
/-- Its share of the ring's ghost state: the positions of its own cells, and those tokens. -/
def linear (c : Dev nD) : sProp 𝕄 := iprop((bigSep Finset.univ fun x : Cix => atPos ER (kcell (c, x)) 0 ∅ 0) ∗ payToks c)
/-- With the records, at some names. -/
def G' (c : Dev nD) : sProp 𝕄 := iprop(∃ K, records m ρ K ∗ linear c)

def start (c : Dev nD) : sProp 𝕄 :=
  iprop(G' m ρ c ∗ cred (tallyAt (barCell c) () 2) ∗ (bigSep (Finset.Ico 0 120) fun p => cred (tallyAt (recvCell c (kF p) (sN p)) () N)) ∗ levAts L lv)

/-- The communication buffer, at some contents. -/
def comm (c : Dev nD) : sProp 𝕄 := iprop(∃ f : Buf (Elt F) ((c : Thread nD τ).loc cc0_scratch0), ((c : Thread nD τ).loc cc0_scratch0) ↦{fullShare} f)

/-- Before the body: all of it; -/
def Φ₀ (c : Dev nD) : sProp 𝕄 := iprop(start m ρ c ∗ comm c)
/-- after it: the buffer, and every semaphore at zero. -/
def Φ₁ (c : Dev nD) : sProp 𝕄 := iprop(comm c ∗ (bigSep Finset.univ fun b => semVal (kcell (c, some b)) 0) ∗ semVal (barCell c) 0)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wst m ρ c
    | ⟨2, _⟩ => ast m ρ c
    | ⟨3, _⟩ => bst m ρ c
    | ⟨4, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body between the two -/

/-- A persistent fact, used once for each member. -/
theorem sep_under {I : Type} [DecidableEq I] {S : Finset I} {P : sProp (MT nD τ sig Unit (Elt F) ℕ UU ℕ)} [BI.Persistent P]
    {Φ Ψ : I → sProp (MT nD τ sig Unit (Elt F) ℕ UU ℕ)} (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

section Ends
variable (K : Dev nD × Cix → ℕ) (c : Dev nD)

/-- A device's positions: the barrier's, those of the waits to come, those of the semaphores no transfer uses. -/
theorem positions : (bigSep Finset.univ fun x : Cix => atPos ER (kcell (c, x)) 0 ∅ 0 : sProp 𝕄)
    ⊢ iprop(atPos ER (barCell c) 0 ∅ 0
      ∗ ((bigSep (Finset.Ico 0 120) fun p => atPos ER (sendCell c (kF p) (sF p)) 0 ∅ 0) ∗ bigSep Finset.univ fun k => atPos ER (sendCell c k 15) 0 ∅ 0)
      ∗ (bigSep Finset.univ fun k => atPos ER (recvCell c k 0) 0 ∅ 0) ∗ bigSep (Finset.Ico 0 120) fun p => atPos ER (recvCell c (kF p) (sN p)) 0 ∅ 0) := by
  rw [sep_cells, sep_own, sep_read, sep_filled]
  exact Entails.refl _

/-- The semaphores no transfer uses are closed at once. -/
theorem close_idle : iprop(records m ρ K ∗ (bigSep Finset.univ fun k : Fin 8 => atPos ER (sendCell c k 15) 0 ∅ 0) ∗ bigSep Finset.univ fun k : Fin 8 => atPos ER (recvCell c k 0) 0 ∅ 0)
    ⊢ |={Set.univ}=> (idle c : sProp 𝕄) := by
  rw [← bigSep_sep']
  unfold idle
  refine (sep_under (Ψ := fun k : Fin 8 => iprop(|={Set.univ}=> (semVal (sendCell c k 15) 0 ∗ semVal (recvCell c k 0) 0))) fun k _ => ?_).trans (bigSep_fupd _ _)
  iintro ⟨#Hr, HS, HV⟩
  imod (Rounds.cell_close ER (rd m ρ) (Set.mem_univ (K (iS c k 15))) (fun h => h) (R := 0) (fun r _ => duties_send_last m ρ c k 15 (by decide) r)) $$ [HS] with HS
  · isplitr; · iapply (inv_send m ρ K c k 15); iexact Hr
    iexact HS
  imod (Rounds.cell_close ER (rd m ρ) (Set.mem_univ (K (iR c k 0))) (fun h => h) (R := 0) (fun r _ => duties_recv_first m ρ c k 0 (by decide) r)) $$ [HV] with HV
  · isplitr; · iapply (inv_recv m ρ K c k 0); iexact Hr
    iexact HV
  imodintro
  isplitl [HS] <;> iassumption

/-- From the start to what the body's run takes. -/
theorem begin_run (f : Buf (Elt F) ((c : Thread nD τ).loc cc0_stg4_0)) :
    iprop(records m ρ K ∗ linear c ∗ cred (tallyAt (barCell c) () 2)
        ∗ (bigSep (Finset.Ico 0 120) fun p => cred (tallyAt (recvCell c (kF p) (sN p)) () N)) ∗ levAts L lv ∗ comm c
        ∗ owesAny c (O₀ c)
        ∗ inputsAnd m ρ c (((c : Thread nD τ).loc cc0_stg4_0) ↦{fullShare} f))
      ⊢ |={Set.univ}=> iprop(Base₀ m ρ K c ∗ I0 m ρ c) := by
  unfold linear comm inputsAnd payToks
  iintro ⟨#Hr, ⟨Hat, HtP, HtN, Htk⟩, HcB, HcR, Hl, ⟨%g, Hc⟩, HO, H1, H2, H3, H4, Ho⟩
  ihave Hat' := (positions (F := F) c) $$ Hat
  icases Hat' with ⟨HaB, ⟨HaS, HiS⟩, HiV, HaV⟩
  imod (close_idle m ρ K c) $$ [HiS HiV] with Hid
  · isplitr; · iexact Hr
    isplitl [HiS] <;> iassumption
  ihave Hs := (slots_split (F := F) c g) $$ Hc
  ihave Hs' := (slots_deal (F := F) c) $$ Hs
  icases Hs' with ⟨Hs0, HsR, HsL⟩
  imodintro
  unfold Base₀ I0 B J outP inputsAnd
  isplitl [Hl Hid H1 H2 H3 H4]
  · isplitr; · iexact Hr
    isplitl [Hl]; · iexact Hl
    isplitl [H1]; · iexact H1
    isplitl [H2]; · iexact H2
    isplitl [H3]; · iexact H3
    isplitl [H4]; · iexact H4
    iexact Hid
  isplitl [HtP HsR]
  · isplitl [HtP] <;> iassumption
  isplitl [HtN HsL]
  · isplitl [HtN] <;> iassumption
  isplitl [HaB HcB]
  · isplitl [HaB] <;> iassumption
  isplitr [HO]
  · isplitl [Ho]
    · isplitl [Ho]
      · iexists f
        isplitr; · ipureintro; exact fun i _ h => absurd h (Nat.not_lt_zero i)
        iexact Ho
      · rw [sep_Ico_empty (by decide)]; iempintro
    isplitl [Htk]; · iexact Htk
    isplitl [HaS HaV HcR]
    · iapply (show iprop((bigSep (Finset.Ico 0 120) fun p => atPos ER (sendCell c (kF p) (sF p)) 0 ∅ 0)
          ∗ (bigSep (Finset.Ico 0 120) fun p => atPos ER (recvCell c (kF p) (sN p)) 0 ∅ 0)
          ∗ bigSep (Finset.Ico 0 120) fun p => cred (tallyAt (recvCell c (kF p) (sN p)) () N)) ⊢ (bigSep (Finset.Ico 0 120) (Pen c) : sProp 𝕄) from by
        unfold Pen PenR; rw [bigSep_sep', bigSep_sep'])
      isplitl [HaS]; · iexact HaS
      isplitl [HaV] <;> iassumption
    iexact Hs0
  iexact HO

/-- From the end of the run to what the region gives back. -/
theorem end_run : iprop(Base m ρ K c ∗ W0 m ρ c 120)
    ⊢ iprop(Φ₁ c ∗ owesAny c 0 ∗ inputsAnd m ρ c (((c : Thread nD τ).loc cc0_stg4_0) ↦{fullShare} outB m ρ c)) := by
  unfold Base inputs W0 outP Don DonS Φ₁ inputsAnd idle comm
  rw [owedFrom_end c _ (by decide), bigSep_sep', bigSep_sep', sep_own, sep_read, sep_filled, bigSep_sep']
  iintro ⟨⟨-, -, H1, H2, H3, H4, Hz, HiS, HiV⟩, ⟨⟨%f, %hf, Ho⟩, Hlast⟩, -, -, -, ⟨HzV, HzS, Hsl⟩, HO⟩
  obtain rfl := outB_of m ρ c f hf
  isplitl [Hz HiS HiV HzV HzS Hsl Hlast]
  · isplitl [Hsl Hlast]
    · iapply (slots_join (F := F) c)
      iapply (slots_back (F := F) c)
      isplitl [Hsl] <;> iassumption
    isplitl [HiS HiV HzV HzS]
    · isplitl [HiS HzS]
      · isplitl [HzS]; · iexact HzS
        iexact HiS
      · isplitl [HiV]; · iexact HiV
        iexact HzV
    iexact Hz
  isplitl [HO]; · iexact HO
  isplitl [H1]; · iexact H1
  isplitl [H2]; · iexact H2
  isplitl [H3]; · iexact H3
  isplitl [H4]; · iexact H4
  iexact Ho

end Ends

end Cert.Ring

end
-- ==== Proof.Run.lean ====
/-
# The run of `@main`

The body obligation, the ghost state and the credit dealt to every device, and the run.
-/
module

public import proofs.«01_k».proof.Proof.Launch
public import Idealize.ShloMosaic.Lib.Pipeline.CollectiveSegs
public import proofs.«01_k».proof.Proof.Gen.KernelIdeal.Points

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem sep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xst m ρ c) ∗ stg c cc0_stg1_0 (wst m ρ c)
    ∗ stg c cc0_stg2_0 (ast m ρ c) ∗ stg c cc0_stg3_0 (bst m ρ c) ∗ stg c cc0_stg4_0 (outB m ρ c))

theorem before_0 (c : Dev nD) (d) : (dats m ρ 0 c).before (0 : Fin 5) t₀ d = xst m ρ c := by unfold Dat.before; rw [if_pos (fetch0_0 t₀)]; rfl
theorem before_1 (c : Dev nD) (d) : (dats m ρ 0 c).before (1 : Fin 5) t₀ d = wst m ρ c := by unfold Dat.before; rw [if_pos (fetch0_1 t₀)]; rfl
theorem before_2 (c : Dev nD) (d) : (dats m ρ 0 c).before (2 : Fin 5) t₀ d = ast m ρ c := by unfold Dat.before; rw [if_pos (fetch0_2 t₀)]; rfl
theorem before_3 (c : Dev nD) (d) : (dats m ρ 0 c).before (3 : Fin 5) t₀ d = bst m ρ c := by unfold Dat.before; rw [if_pos (fetch0_3 t₀)]; rfl

/-- The body's run, between what the pipeline hands it and what the pipeline takes back. -/
theorem body_sound (c : Dev nD) : bodyPre m ρ c ⊢ wpc c (cc0_body xM (Memref.isWhole_whole _) wM (Memref.isWhole_whole _) aM (Memref.isWhole_whole _)
    bM (Memref.isWhole_whole _) oM (Memref.isWhole_whole _) cM (Memref.isWhole_whole _) cc0_scratch1 cc0_scratch2) (fun _ => bodyPost m ρ c) := by
  unfold bodyPre Φ₀ start G' Dat.owesAt Pipeline.owesWithin
  rw [show (dats m ρ 0 c).owed t₀.castSucc = O₀ c from rfl]
  iintro ⟨⟨⟨⟨%K, #Hr, Hlin⟩, HcB, HcR, Hl⟩, Hc⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩⟩
  rw [before_0] at e0; rw [before_1] at e1; rw [before_2] at e2; rw [before_3] at e3
  subst e0 e1 e2 e3
  imod (begin_run m ρ K c f4) $$ [Hlin HcB HcR Hl Hc HO H0 H1 H2 H3 H4] with H
  · isplitr; · iexact Hr
    isplitl [Hlin]; · iexact Hlin
    isplitl [HcB]; · iexact HcB
    isplitl [HcR]; · iexact HcR
    isplitl [Hl]; · iexact Hl
    isplitl [Hc]; · iexact Hc
    isplitl [HO]; · unfold owesAny; iexists W; iexact HO
    unfold inputsAnd
    isplitl [H0]; · iexact H0
    isplitl [H1]; · iexact H1
    isplitl [H2]; · iexact H2
    isplitl [H3]; · iexact H3
    iexact H4
  iapply (body_run m ρ K c (fun _ => bodyPost m ρ c) ?_) $$ H
  refine (end_run m ρ K c).trans ?_
  unfold bodyPost inputsAnd owesAny Dat.owesAt Pipeline.owesWithin
  rw [show (dats m ρ 0 c).owed t₀.succ = 0 from rfl]
  iintro ⟨HΦ, ⟨%W', HO⟩, H0, H1, H2, H3, H4⟩
  imodintro
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 100000 in
theorem body_obligation (c : Dev nD) : BodyObligation (dats (F := F) m ρ 0 c) (defs₀ (F := F)) 𝒱₀ () Set.univ := fun t => by
  rw [fin_N t]
  rw [sep_W, sep_W]
  simp only [owns_whole_eq]
  show bodyPre m ρ c ⊢ wpc c (cc0_body xM (Memref.isWhole_whole _) wM (Memref.isWhole_whole _) aM (Memref.isWhole_whole _)
    bM (Memref.isWhole_whole _) oM (Memref.isWhole_whole _) cM (Memref.isWhole_whole _) cc0_scratch1 cc0_scratch2) (fun _ => bodyPost m ρ c)
  exact body_sound m ρ c

/-! ## The ghost state at launch -/

def ringCells : Finset (GSem nD τ sig) := Finset.univ.map ⟨kcell, kcell_injective⟩

/-- Two tokens for every cell; those no duty asks for are never used. -/
abbrev tokOf (x : (Dev nD × Cix) × Bool) : GSem nD τ sig × ℕ × Bool := (kcell x.1, 0, x.2)
theorem tokOf_injective : Function.Injective tokOf := by
  rintro ⟨x, b⟩ ⟨x', b'⟩ h
  exact Prod.ext (kcell_injective (congrArg Prod.fst h)) (congrArg (fun y : GSem nD τ sig × ℕ × Bool => y.2.2) h)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of a device's own cells. -/
def minted (c : Dev nD) : sProp 𝕄 := bigSep Finset.univ fun x : Cix => iprop(dutyTok ER (kcell (c, x)) 0 false ∗ dutyTok ER (kcell (c, x)) 0 true)

/-- What the launch deals device `c`. -/
def G (c : Dev nD) : sProp 𝕄 :=
  iprop((bigSep Finset.univ fun x : Cix => roundState ER (rd m ρ) (kcell (c, x)) 0)
    ∗ (bigSep Finset.univ fun x : Cix => iprop(atPos ER (kcell (c, x)) 0 ∅ 0 ∗ reached ER (kcell (c, x)) 0)) ∗ minted c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cix => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod, bigSep_univ_prod]
    exact bigSep_congr fun c _ => bigSep_congr fun x _ => bigSep_univ_eq_bigSepL [false, true] (by decide) (by decide) _
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores and the barrier are its cells. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun x : Cix => semVal (kcell (c, x)) 0 : sProp 𝕄) := by
  rw [unscopedSems0_eq, sep_cells]
  unfold Pipeline.ownSems0
  iintro ⟨HS, HB⟩
  isplitl [HB]; · iexact HB
  iexact HS

/-- Every cell of a device is put under its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cix => iprop(∃ κ : ℕ, cellInv ER (rd m ρ) κ (kcell (c, x))))
          ∗ (bigSep Finset.univ fun x : Cix => iprop(atPos ER (kcell (c, x)) 0 ∅ 0 ∗ reached ER (kcell (c, x)) 0)) ∗ minted c) := by
  unfold G
  iintro ⟨Hos, Hus, Hst, Hat, Htok⟩
  ihave Hv := (sems_cells (F := F) c) $$ [Hos Hus]
  · isplitl [Hos] <;> iassumption
  imod (show iprop((bigSep Finset.univ fun x : Cix => semVal (kcell (c, x)) 0) ∗ bigSep Finset.univ fun x : Cix => roundState ER (rd m ρ) (kcell (c, x)) 0)
      ⊢ (|={Set.univ}=> bigSep Finset.univ fun x : Cix => iprop(∃ κ : ℕ, cellInv ER (rd m ρ) κ (kcell (c, x))) : sProp 𝕄) from by
        rw [← bigSep_sep']
        exact (bigSep_mono fun x _ => (Rounds.body_intro ER (rd m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of a device's cells that some device pays with. -/
theorem minted_used (c : Dev nD) : minted (F := F) c
    ⊢ iprop(dutyTok ER (barCell c) 0 true ∗ dutyTok ER (barCell c) 0 false
      ∗ (bigSep (Finset.Ico 0 120) fun p => dutyTok ER (sendCell c (kF p) (sF p)) 0 false)
      ∗ bigSep (Finset.Ico 0 120) fun p => dutyTok ER (recvCell c (kF p) (sN p)) 0 false) := by
  unfold minted
  rw [bigSep_sep', sep_cells, sep_own, sep_read, sep_filled, sep_cells]
  iintro ⟨⟨HbF, ⟨HS, -⟩, -, HV⟩, HbT, -⟩
  isplitl [HbT]; · iexact HbT
  isplitl [HbF]; · iexact HbF
  isplitl [HS]; · iexact HS
  iexact HV

/-- One step along stream `k`. -/
def along (k : Fin 8) : Dev nD ≃ Dev nD := ⟨fun c => dst c k, fun c => src c k, fun c => src_dst c k, fun c => dst_src c k⟩

/-- The tokens go to the devices that pay with them. -/
theorem toks_around : (bigSep Finset.univ fun c : Dev nD => (minted c : sProp 𝕄)) ⊢ bigSep Finset.univ fun c : Dev nD => payToks c := by
  refine (bigSep_mono fun c _ => minted_used c).trans ?_
  unfold payToks toks
  rw [bigSep_sep', bigSep_sep', bigSep_sep', bigSep_sep', bigSep_sep',
    bigSep_congr (s := Finset.univ) (fun (c : Dev nD) _ => bigSep_sep' (Finset.Ico 0 120) (fun p => (dutyTok ER (sendCell c (kF p) (sF p)) 0 false : sProp 𝕄))
      (fun p => dutyTok ER (recvCell (dst c (kF p)) (kF p) (sN p)) 0 false)), bigSep_sep',
    bigSep_univ_equiv ring (fun c : Dev nD => (dutyTok ER (barCell c) 0 false : sProp 𝕄)),
    bigSep_univ_equiv ring.symm (fun c : Dev nD => (dutyTok ER (barCell c) 0 true : sProp 𝕄)),
    sep_swap (Finset.Ico 0 120) (fun (c : Dev nD) p => (dutyTok ER (recvCell c (kF p) (sN p)) 0 false : sProp 𝕄)),
    bigSep_congr (s := Finset.Ico 0 120) (fun p _ => bigSep_univ_equiv (along (kF p)) (fun c : Dev nD => (dutyTok ER (recvCell c (kF p) (sN p)) 0 false : sProp 𝕄))),
    ← sep_swap (Finset.Ico 0 120) (fun (c : Dev nD) p => (dutyTok ER (recvCell (along (kF p) c) (kF p) (sN p)) 0 false : sProp 𝕄))]
  exact Entails.refl _

/-- Every device's share, with the records of all. -/
theorem regroup :
    (bigSep Finset.univ fun c : Dev nD => iprop((bigSep Finset.univ fun x : Cix => iprop(∃ κ : ℕ, cellInv ER (rd m ρ) κ (kcell (c, x))))
          ∗ (bigSep Finset.univ fun x : Cix => iprop(atPos ER (kcell (c, x)) 0 ∅ 0 ∗ reached ER (kcell (c, x)) 0)) ∗ minted c) : sProp 𝕄)
      ⊢ bigSep Finset.univ (G' m ρ) := by
  rw [bigSep_sep', bigSep_sep', ← bigSep_univ_prod (fun x : Dev nD × Cix => iprop(∃ κ : ℕ, cellInv ER (rd m ρ) κ (kcell x))),
    bigSep_congr (s := Finset.univ) (fun (c : Dev nD) _ => bigSep_sep' Finset.univ (fun x : Cix => (atPos ER (kcell (c, x)) 0 ∅ 0 : sProp 𝕄)) (fun x => reached ER (kcell (c, x)) 0)),
    bigSep_sep', ← bigSep_univ_prod (fun x : Dev nD × Cix => (reached ER (kcell x) 0 : sProp 𝕄))]
  iintro ⟨HI, ⟨Hat, #HR⟩, Htok⟩
  ihave HK := (BI.bigSep_exists_pi Finset.univ (fun (x : Dev nD × Cix) (κ : ℕ) => (cellInv ER (rd m ρ) κ (kcell x) : sProp 𝕄))) $$ HI
  icases HK with ⟨%K, #HI⟩
  ihave Htk := (toks_around (F := F)) $$ Htok
  iapply (sep_under (P := records m ρ K) (Φ := linear) (Ψ := G' m ρ) fun c _ => show _ ⊢ iprop(∃ K, records m ρ K ∗ linear c) from by
    iintro H; iexists K; iexact H)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- What device `d` owes the barrier of device `c`. -/
theorem owed_bar (d c : Dev nD) : O₀ d (barCell c) () = (if d = prv c then 1 else 0) + (if d = nxt c then 1 else 0) := by
  unfold O₀ owedBar
  have h0 : owedFrom d 0 (barCell c) () = 0 := by
    by_contra h
    obtain ⟨j, _, _, e⟩ := owedFrom_pos (Nat.pos_of_ne_zero h)
    exact recv_ne_bar _ _ _ _ e.symm
  rw [Pi.add_apply, Finsupp.add_apply, Pi.add_apply, Finsupp.add_apply, h0, tallyAt_apply, tallyAt_apply, Nat.zero_add]
  refine congrArg₂ (· + ·) ?_ ?_
  · by_cases h : d = prv c
    · subst h; rw [nxt_prv, if_pos ⟨rfl, rfl⟩, if_pos rfl]
    · rw [if_neg (fun ⟨h1, _⟩ => h (by rw [barCell_inj h1, prv_nxt])), if_neg h]
  · by_cases h : d = nxt c
    · subst h; rw [prv_nxt, if_pos ⟨rfl, rfl⟩, if_pos rfl]
    · rw [if_neg (fun ⟨h1, _⟩ => h (by rw [barCell_inj h1, nxt_prv])), if_neg h]

/-- What it owes a receive cell of device `c`. -/
theorem owed_recv (d c : Dev nD) (p : ℕ) (hp : p < 120) : O₀ d (recvCell c (kF p) (sN p)) () = if d = src c (kF p) then N else 0 := by
  unfold O₀ owedBar
  rw [Pi.add_apply, Finsupp.add_apply, Pi.add_apply, Finsupp.add_apply, tallyAt_ne_cell (recv_ne_bar _ _ _ _), tallyAt_ne_cell (recv_ne_bar _ _ _ _),
    Finsupp.zero_apply, Nat.add_zero, Nat.add_zero]
  unfold owedFrom
  rw [Finset.sum_apply, Finsupp.finset_sum_apply, Finset.sum_eq_single p]
  · rw [tallyAt_apply]
    by_cases h : d = src c (kF p)
    · subst h; rw [dst_src, if_pos ⟨rfl, rfl⟩, if_pos rfl]
    · rw [if_neg (fun ⟨h1, _⟩ => h (by rw [(recvCell_inj h1).1, src_dst])), if_neg h]
  · intro j hj hne
    rw [tallyAt_apply]
    exact if_neg fun ⟨h1, _⟩ => hne (filled_inj (Finset.mem_Ico.mp hj).2 hp (recvCell_inj h1).2.symm)
  · intro h; exact absurd (Finset.mem_Ico.mpr ⟨Nat.zero_le _, hp⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (p : ℕ) (hp : p < 120) :
    tallyOn (recvCell c (kF p) (sN p)) (launchCredit (Pipeline.owing O₀) 0 (recvCell c (kF p) (sN p))) = (tallyAt (recvCell c (kF p) (sN p)) () N : CellTallies nD τ sig Unit) := by
  unfold tallyAt; refine congrArg _ (Finsupp.ext fun u => ?_); cases u
  rw [Pipeline.launchCredit_owing, Finsupp.single_eq_same, Finset.sum_congr rfl fun d _ => owed_recv d c p hp, Finset.sum_ite_eq' Finset.univ (src c (kF p)) fun _ => N,
    if_pos (Finset.mem_univ _)]

theorem creds (c : Dev nD) : (Pipeline.launchCred O₀ c : sProp 𝕄)
    ⊢ iprop(cred (tallyAt (barCell c) () 2) ∗ bigSep (Finset.Ico 0 120) fun p => cred (tallyAt (recvCell c (kF p) (sN p)) () N)) := by
  unfold Pipeline.launchCred
  rw [bigSep_univ_at _ (SemLoc.reg barS), launch_bar]
  refine sep_mono_right ?_
  refine (bigSep_subset (t := (Finset.Ico 0 120).image fun p => (SemLoc.dma (recvS (kF p) (sN p)) : SemLoc sig)) fun x hx => ?_).trans ?_
  · obtain ⟨p, _, rfl⟩ := Finset.mem_image.mp hx
    exact Finset.mem_erase.mpr ⟨osem_ne_bar (true, kF p, sN p), Finset.mem_univ _⟩
  · rw [sep_image (fun p => (SemLoc.dma (recvS (kF p) (sN p)) : SemLoc sig)) _ fun p hp q hq e => filled_inj (Finset.mem_Ico.mp hp).2 (Finset.mem_Ico.mp hq).2
      (congrArg Prod.snd (osem_injective (a₁ := (true, kF p, sN p)) (a₂ := (true, kF q, sN q)) e))]
    exact Entails.of_eq (bigSep_congr fun p hp => by rw [← launch_recv c p (Finset.mem_Ico.mp hp).2])

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ comm
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ comm Pipeline.ownSems0
  iintro ⟨Hr, Hz, HzB⟩
  isplitl [HzB]; · iexact HzB
  isplitl [Hz]; · iexact Hz
  iexact Hr

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every fair execution of `@main` on the sixteen devices ends;
the arrays are then at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are unchanged. -/
theorem finalA_0 (c : Dev nD) : finalA m ρ c (0 : Fin 5) = (s₀ m ρ).mem (win0_0.arr.view.loc (c : Thread nD τ)) := (dats (F := F) m ρ 0 c).arrAt_in (0 : Fin 5) rfl _
theorem finalA_1 (c : Dev nD) : finalA m ρ c (1 : Fin 5) = (s₀ m ρ).mem (win0_1.arr.view.loc (c : Thread nD τ)) := (dats (F := F) m ρ 0 c).arrAt_in (1 : Fin 5) rfl _
theorem finalA_2 (c : Dev nD) : finalA m ρ c (2 : Fin 5) = (s₀ m ρ).mem (win0_2.arr.view.loc (c : Thread nD τ)) := (dats (F := F) m ρ 0 c).arrAt_in (2 : Fin 5) rfl _
theorem finalA_3 (c : Dev nD) : finalA m ρ c (3 : Fin 5) = (s₀ m ρ).mem (win0_3.arr.view.loc (c : Thread nD τ)) := (dats (F := F) m ρ 0 c).arrAt_in (3 : Fin 5) rfl _

end Cert.Ring

end
-- ==== Proof.Value.lean ====
/-
# The value of the kernel

The result array of a device is what its pipeline writes back, `outB`. Over the extended reals a stream's running sum is
the sum of the block products of the devices it has passed, all for the row block of the device it ends on, so after
sixteen devices it is that row block of the whole product.
-/
module

public import proofs.«01_k».proof.Proof.Run
public import Idealize.ShloMosaic.Lib.Pipeline.Value
public import Idealize.ShloMosaic.Lib.VecWindow
public import Idealize.ShloMosaic.Lib.ValueIdx
public import Idealize.ShloMosaic.Lib.MatmulPlain
public import Idealize.ShloMosaic.PureOps.Ideal.Laws

@[expose] public section

noncomputable section

namespace Cert.Ring

open Cert.KernelIdeal Cert.KernelIdeal.Gen
open Idealize.ShloMosaic Idealize.ShloMosaic.TcCoe Idealize.SL.Sem
open Idealize.ShloMosaic.ValueIdx
open Idealize.ShloMosaic.Pipeline (Dat Cfg Window)

section Any

variable {F : FTy → Type} [FloatOps F]
variable (m : (ℓ : Loc nD τ sig) → Buf (Elt F) ℓ) (ρ : Dev nD → PrngReg)

/-- Every window's block at the one point is its whole array. -/
theorem at_zero : ∀ (w : Fin cfg0.W) (t : Fin cfg0.N) (a : Fin (cfg0.win w).shape.rank), (cfg0.win w).index t a = 0 :=
  (by decide +kernel : ∀ (w : Fin 5) (t : Fin grid0.N) (a : Fin (cfg0.win w).shape.rank), (cfg0.win w).index t a = 0)

theorem place (w : Fin cfg0.W) (t : Fin cfg0.N) (y : ((cfg0.win w).xblock (cfg0.grid.coords t)).Idx) (a : Fin (cfg0.win w).shape.rank) :
    (((cfg0.win w).rect t).emb y a : ℕ) = y a := (cfg0.win w).rect_emb_val_of_index_zero t a (at_zero w t a) y

theorem xst_eq (c : Dev nD) : xst m ρ c = m ((c : Thread nD τ).loc main_arg0) :=
  funext fun y => congrArg (m ((c : Thread nD τ).loc main_arg0)) (funext fun a => Fin.ext (place 0 (0 : Fin 1) y a))
theorem wst_eq (c : Dev nD) : wst m ρ c = m ((c : Thread nD τ).loc main_arg1) :=
  funext fun y => congrArg (m ((c : Thread nD τ).loc main_arg1)) (funext fun a => Fin.ext (place 1 (0 : Fin 1) y a))
theorem ast_eq (c : Dev nD) : ast m ρ c = m ((c : Thread nD τ).loc main_arg2) :=
  funext fun y => congrArg (m ((c : Thread nD τ).loc main_arg2)) (funext fun a => Fin.ext (place 2 (0 : Fin 1) y a))
theorem bst_eq (c : Dev nD) : bst m ρ c = m ((c : Thread nD τ).loc main_arg3) :=
  funext fun y => congrArg (m ((c : Thread nD τ).loc main_arg3)) (funext fun a => Fin.ext (place 3 (0 : Fin 1) y a))

/-- The point writes back the whole result, -/
theorem flushes (c : Dev nD) (t : Fin cfg0.N) : (dats m ρ 0 c).flushed 4 t = ((cfg0.win 4).blk t).view.read (Elt F) (outB m ρ c) :=
  funext fun y => congrArg (outB m ρ c) (funext fun a => Fin.ext (place 4 t y a).symm)

theorem covers (t : Fin cfg0.N) (i : S256x2048.Idx) : i ∈ ((cfg0.win 4).blk t).view.set := by
  have e : ((cfg0.win 4).blk t).view.emb i = i := funext fun a => Fin.ext (place 4 t i a)
  have h := ((cfg0.win 4).blk t).view.emb_mem_set i
  rwa [e] at h

/-- so the array ends holding it. -/
theorem finalA_4 (c : Dev nD) : finalA m ρ c (4 : Fin 5) = outB m ρ c :=
  (dats m ρ 0 c).arrAt_eq_of_cover 4 (outB m ρ c) (fun t _ => flushes m ρ c t) fun i => ⟨(⟨0, by decide⟩ : Fin cfg0.N), flush0_4 _, covers _ i⟩

end Any

/-! ## Over the extended reals -/

variable (m : (ℓ : Loc nD τ sig) → Buf (Elt Ideal) ℓ) (ρ : Dev nD → PrngReg)

/-- Row `r` of row block `e`, and column `q` of the columns of stream `k`. -/
def rowOf (e : Fin 16) (r : Fin 256) : Fin 4096 := ⟨256 * e.val + r.val, by omega⟩
def colOf (k : Fin 8) (q : Fin 256) : Fin 2048 := ⟨256 * k.val + q.val, by omega⟩

/-- The staged blocks as matrices. -/
def xe (d : Dev nD) (i : Fin 4096) (j : Fin 256) : EReal := xst m ρ d (ix2 i j)
def we (d : Dev nD) (j : Fin 256) (i : Fin 2048) : EReal := wst m ρ d (ix2 j i)

/-- An element of device `d`'s product of its columns of `x`, at row block `e`, and its rows of `w`, at stream `k`'s columns. -/
def prod (d : Dev nD) (e : Fin 16) (k : Fin 8) (r q : Fin 256) : EReal :=
  ∑ j : Fin 256, xe m ρ d (rowOf e r) j * we m ρ d j (colOf k q)

/-- A running sum as a matrix. -/
def mat (V : Vec Ideal S1x1x256x256 .bf16) : FVec Ideal S256x256 .bf16 := shapeCast S256x256 V shapeCasts_S1x1x256x256_S256x256

/-- The row block of stream `k`'s running sum on device `c` at step `s`: that of the device the stream ends on. -/
def rowAt (c : Dev nD) (k : Fin 8) (s : ℕ) : Fin 16 := ⟨if k.val < 4 then (c.val + 31 - s) % 16 else (c.val + 1 + s) % 16, by split <;> omega⟩
/-- The device `t` steps up the stream. -/
def upBy (c : Dev nD) (k : Fin 8) (t : ℕ) : Dev nD := ⟨if k.val < 4 then (c.val + 16 - t) % 16 else (c.val + t) % 16, by split <;> exact Nat.mod_lt _ (by decide)⟩

theorem src_val (c : Dev nD) (k : Fin 8) : (src c k).val = if k.val < 4 then (c.val + 15) % 16 else (c.val + 1) % 16 := by
  unfold src; split
  · exact prv_val c
  · exact nxt_val c

theorem rowAt_src (c : Dev nD) (k : Fin 8) (s : ℕ) (h : s < 15) : rowAt (src c k) k s = rowAt c k (s + 1) := by
  have := dev_lt c
  apply Fin.ext
  simp only [rowAt, src_val]
  split <;> omega
theorem upBy_src (c : Dev nD) (k : Fin 8) (t : ℕ) (h : t < 15) : upBy (src c k) k t = upBy c k (t + 1) := by
  have := dev_lt c
  apply Fin.ext
  simp only [upBy, src_val]
  split <;> omega
theorem upBy_zero (c : Dev nD) (k : Fin 8) : upBy c k 0 = c := by
  have := dev_lt c
  apply Fin.ext
  simp only [upBy]
  split <;> omega
theorem rowAt_last (c : Dev nD) (k : Fin 8) : (rowAt c k 15).val = c.val := by
  have := dev_lt c
  simp only [rowAt]
  split <;> omega

/-- A product of two matrices of 256 in the middle, its accumulator zero. -/
theorem mm_apply {M N : ℕ} (x : FVec Ideal ⟨2, ![M, 256]⟩ .fp8e5m2) (w : FVec Ideal ⟨2, ![256, N]⟩ .fp8e5m2) (r : Fin M) (q : Fin N) :
    (FloatOps.matmul (DotDims.plain M 256 N) none x w (constant (F := Ideal) ⟨2, ![M, N]⟩ .f32 0x00000000#32) (ix2 r q) : EReal)
      = ∑ j : Fin 256, (x (ix2 r j) : EReal) * w (ix2 j q) := by
  rw [Ideal.matmul_plain_apply, constant_apply, Ideal.ofBits_zero_f32, zero_add]

/-- Rows and columns read off the staged blocks. -/
theorem xAt_apply (c : Dev nD) (off : Fin 2 → ℕ) (h : ∀ a, off a + S256x256.size a ≤ S4096x256.size a) (e : Fin 16) (r j : Fin 256)
    (he : off = ![256 * e.val, 0]) : xAt m ρ c off h (ix2 r j) = xst m ρ c (ix2 (rowOf e r) j) := by
  subst he
  refine congrArg (xst m ρ c) (funext fun a => Fin.ext ?_)
  match a with
  | ⟨0, _⟩ => show 256 * e.val + 1 * r.val = 256 * e.val + r.val; omega
  | ⟨1, _⟩ => show 0 + 1 * j.val = j.val; omega
theorem wAt_apply (c : Dev nD) (k : Fin 8) (j q : Fin 256) : wAt m ρ c ![0, 256 * k.val] (col_inb k) (ix2 j q) = wst m ρ c (ix2 j (colOf k q)) := by
  refine congrArg (wst m ρ c) (funext fun a => Fin.ext ?_)
  match a with
  | ⟨0, _⟩ => show 0 + 1 * j.val = j.val; omega
  | ⟨1, _⟩ => show 256 * k.val + 1 * q.val = 256 * k.val + q.val; omega
theorem wHalf_apply (c : Dev nD) (n : ℕ) (h : ∀ a, (![0, n] : Fin 2 → ℕ) a + S256x1024.size a ≤ S256x2048.size a) (j : Fin 256) (k : Fin 8) (q : Fin 256)
    (p : Fin 1024) (hp : n + p.val = 256 * k.val + q.val) : wHalf m ρ c ![0, n] h (ix2 j p) = wst m ρ c (ix2 j (colOf k q)) := by
  refine congrArg (wst m ρ c) (funext fun a => Fin.ext ?_)
  match a with
  | ⟨0, _⟩ => show 0 + 1 * j.val = j.val; omega
  | ⟨1, _⟩ => show n + 1 * p.val = 256 * k.val + q.val; omega

/-- What a stream starts from. -/
theorem seed_apply (c : Dev nD) (k : Fin 8) (r q : Fin 256) : (mat (seed m ρ c k) (ix2 r q) : EReal) = prod m ρ c (rowAt c k 0) k r q := by
  unfold mat seed k0_pay2
  dsimp only
  rw [shapeCast_shapeCast, shapeCast_self, shapeCast_self, truncf_apply]
  refine (mm_apply _ _ r q).trans (Finset.sum_congr rfl fun j _ => ?_)
  refine congrArg₂ (fun a b : EReal => a * b) ?_ (wAt_apply m ρ c k j q)
  have hc := dev_lt c
  split
  · refine xAt_apply m ρ c _ _ _ r j (k0_off1_eq c |>.trans ?_)
    rw [show (rowAt c k 0).val = (c.val + 15) % 16 by simp only [rowAt]; split <;> omega]
  · refine xAt_apply m ρ c _ _ _ r j (k0_off2_eq c |>.trans ?_)
    rw [show (rowAt c k 0).val = (c.val + 1) % 16 by simp only [rowAt]; split <;> omega]

/-- What a device adds to a stream. -/
theorem part_apply (c : Dev nD) (k : Fin 8) (s : ℕ) (hs : s < 15) (r q : Fin 256) : (part m ρ c k s (ix2 r q) : EReal) = prod m ρ c (rowAt c k (s + 1)) k r q := by
  have hc := dev_lt c
  have hk := k.isLt
  have hm : s % 15 = s := Nat.mod_eq_of_lt hs
  have hq : 256 * (k.val % 4) + q.val < 1024 := by omega
  unfold part
  rw [extractStridedSlice_apply _ _ _ (ix2 r q) (ix2 r ⟨256 * (k.val % 4) + q.val, hq⟩) (fun a => by
    match a with
    | ⟨0, _⟩ => show r.val = 0 + r.val; omega
    | ⟨1, _⟩ => rfl)]
  split
  · unfold mmR k0_pay14
    dsimp only
    rw [shapeCast_self, shapeCast_self]
    refine (mm_apply _ _ r _).trans (Finset.sum_congr rfl fun j _ => ?_)
    refine congrArg₂ (fun a b : EReal => a * b) ?_ (wHalf_apply m ρ c 0 _ j k q _ (by show 0 + (256 * (k.val % 4) + q.val) = _; omega))
    refine xAt_apply m ρ c _ _ _ r j (k0_off3_eq c (⟨s % 15, by omega⟩ : Fin 15) |>.trans ?_)
    rw [show (rowAt c k (s + 1)).val = (c.val + 30 - s % 15) % 16 by simp only [rowAt]; split <;> omega]
  · unfold mmL k0_pay15
    dsimp only
    rw [shapeCast_self, shapeCast_self]
    refine (mm_apply _ _ r _).trans (Finset.sum_congr rfl fun j _ => ?_)
    refine congrArg₂ (fun a b : EReal => a * b) ?_ (wHalf_apply m ρ c 1024 _ j k q _ (by show 1024 + (256 * (k.val % 4) + q.val) = _; omega))
    refine xAt_apply m ρ c _ _ _ r j (k0_off4_eq c (⟨s % 15, by omega⟩ : Fin 15) |>.trans ?_)
    rw [show (rowAt c k (s + 1)).val = (c.val + s % 15 + 2) % 16 by simp only [rowAt]; split <;> omega]

/-- Adding to a running sum. -/
theorem add_apply (P : FVec Ideal S256x256 .f32) (V : Vec Ideal S1x1x256x256 .bf16) (i : S256x256.Idx) : (mat (k0_pay24 P V) i : EReal) = mat V i + P i := by
  unfold mat k0_pay24
  dsimp only
  rw [shapeCast_shapeCast]
  rfl

/-- A running sum is the sum of the products of the devices it has passed. -/
theorem acc_apply (k : Fin 8) (r q : Fin 256) : ∀ (s : ℕ) (hs : s ≤ 15) (c : Dev nD),
    (mat (acc m ρ c k s) (ix2 r q) : EReal) = ∑ t ∈ Finset.range (s + 1), prod m ρ (upBy c k t) (rowAt c k s) k r q
  | 0, _, c => by
    rw [Finset.sum_range_one, upBy_zero]
    exact seed_apply m ρ c k r q
  | s + 1, hs, c => by
    rw [Finset.sum_range_succ', upBy_zero]
    refine (add_apply _ _ _).trans (congrArg₂ (fun a b : EReal => a + b) ?_ (part_apply m ρ c k s (by omega) r q))
    rw [acc_apply k r q s (by omega) (src c k), rowAt_src c k s (by omega)]
    exact Finset.sum_congr rfl fun t ht => by rw [upBy_src c k t (by have := Finset.mem_range.mp ht; omega)]

/-- Sixteen steps up a stream are all the devices. -/
theorem sum_up (c : Dev nD) (k : Fin 8) (f : Dev nD → EReal) : ∑ t ∈ Finset.range 16, f (upBy c k t) = ∑ d : Fin 16, f d := by
  have hc := dev_lt c
  rw [Finset.sum_range]
  refine Function.Bijective.sum_comp (e := fun t : Fin 16 => upBy c k t.val) (Finite.injective_iff_bijective.mp fun t t' h => Fin.ext ?_) f
  have ht := t.isLt; have ht' := t'.isLt
  have hv : (upBy c k t.val).val = (upBy c k t'.val).val := congrArg Fin.val h
  simp only [upBy] at hv
  split at hv <;> omega

theorem lastOf_step : ∀ k : Fin 8, lastOf k / 8 = 14 := by decide

/-- What a stream leaves in the result. -/
theorem outV_apply (c : Dev nD) (k : Fin 8) (r q : Fin 256) : (outV m ρ c (lastOf k) (ix2 r q) : EReal)
    = (∑ d : Fin 16, prod m ρ d ⟨c.val, dev_lt c⟩ k r q) * scale m ρ c := by
  have e : rowAt c k 15 = ⟨c.val, dev_lt c⟩ := Fin.ext (rowAt_last c k)
  have h := acc_apply m ρ k r q 15 le_rfl c
  rw [e, sum_up c k fun d => prod m ρ d ⟨c.val, dev_lt c⟩ k r q] at h
  rw [← h]
  unfold outV accIn
  rw [(lastOf_range k).2.2, lastOf_step]
  exact congrArg (· * (scale m ρ c : EReal)) (add_apply (part m ρ c k 14) (acc m ρ (src c k) k 14) (ix2 r q)).symm

end Cert.Ring

end
-- ==== Proof.Ref.lean ====
/-
# The value of the reference

The reference's result is one function of its arguments; read at an index over the extended reals it is a sum of 4096
products, times the product of the two scales.
-/
module

public import proofs.«01_k».proof.Proof.Gen.ReferenceIdeal.Value
public import Idealize.ShloMosaic.Lib.Pipeline.Value
public import Idealize.ShloMosaic.Lib.VecWindow
public import Idealize.ShloMosaic.Lib.ValueIdx
public import Idealize.ShloMosaic.Lib.MatmulPlain
public import Idealize.ShloMosaic.PureOps.Ideal.Laws

@[expose] public section

noncomputable section

namespace Cert.RefValue

open Cert.ReferenceIdeal Cert.ReferenceIdeal.Gen
open Idealize.ShloMosaic Idealize.ShloMosaic.TcCoe Idealize.SL.Sem
open Idealize.ShloMosaic.ValueIdx

section Any

variable {F : FTy → Type} [FloatOps F]

/-- The result as a function of the arguments. -/
def refOf (x : Vec F S4096x4096 .fp8e5m2) (w : Vec F S4096x2048 .fp8e5m2) (a b : Vec F S1 .f32) : Vec F S4096x2048 .f32 :=
  k0_pay1 x w (a (ix1 0)) (b (ix1 0))

theorem off_zero : (![0, 0] : Fin 2 → ℕ) = fun _ => 0 := funext (by decide)

/-- The body leaves that function of the staged inputs. -/
theorem body_leaves (c : Dev nD) (p : Memref sig .tc .vmem S4096x4096 .fp8e5m2) (hp : p.IsWhole) (q : Memref sig .tc .vmem S4096x2048 .fp8e5m2) (hq : q.IsWhole)
    (u : Memref sig .tc .smem S1 .f32) (hu : u.IsWhole) (v : Memref sig .tc .smem S1 .f32) (hv : v.IsWhole) (o : Memref sig .tc .vmem S4096x2048 .f32) (ho : o.IsWhole)
    (x : Vec F S4096x4096 .fp8e5m2) (w : Vec F S4096x2048 .fp8e5m2) (a b : Vec F S1 .f32) :
    out0_A_4 c p hp q hq u hu v hv o ho x w a b = refOf x w a b := by
  unfold out0_A_4
  rw [View.read_writes_junk_eq_canon]
  unfold kernelRun0_A
  dsimp only
  sl_unfold_words
  rw [View.canon_unit_zero off_zero]
  simp only [View.readAt_eq_ld, hp.read_unread, hq.read_unread, hu.read_unread, hv.read_unread, View.ld_unit_zero (S := S4096x4096) off_zero,
    View.ld_unit_zero (S := S4096x2048) off_zero]
  unfold refOf
  have e (f : Vec F S1 .f32) (i j : S1.Idx) : f i = f j := congrArg f (funext fun k => by
    match k with
    | ⟨0, _⟩ => exact Subsingleton.elim (α := Fin 1) _ _)
  exact congrArg₂ (k0_pay1 x w) (e a _ _) (e b _ _)

variable (m : (ℓ : Loc nD τ sig) → Buf (Elt F) ℓ) (ρ : Dev nD → PrngReg)

/-- Every window's block at the one point is its whole array. -/
theorem at_zero : ∀ (w : Fin cfg0.W) (t : Fin cfg0.N) (a : Fin (cfg0.win w).shape.rank), (cfg0.win w).index t a = 0 :=
  (by decide +kernel : ∀ (w : Fin 5) (t : Fin grid0.N) (a : Fin (cfg0.win w).shape.rank), (cfg0.win w).index t a = 0)

theorem place (w : Fin cfg0.W) (t : Fin cfg0.N) (y : ((cfg0.win w).xblock (cfg0.grid.coords t)).Idx) (a : Fin (cfg0.win w).shape.rank) :
    (((cfg0.win w).rect t).emb y a : ℕ) = y a := (cfg0.win w).rect_emb_val_of_index_zero t a (at_zero w t a) y

theorem blk0 (c : Dev nD) (t : Fin cfg0.N) : iblk m c 0 t = m ((c : Thread nD τ).loc main_arg0) :=
  funext fun y => congrArg (m ((c : Thread nD τ).loc main_arg0)) (funext fun a => Fin.ext (place 0 t y a))
theorem blk1 (c : Dev nD) (t : Fin cfg0.N) : iblk m c 1 t = m ((c : Thread nD τ).loc main_arg1) :=
  funext fun y => congrArg (m ((c : Thread nD τ).loc main_arg1)) (funext fun a => Fin.ext (place 1 t y a))
theorem blk2 (c : Dev nD) (t : Fin cfg0.N) : iblk m c 2 t = m ((c : Thread nD τ).loc main_arg2) :=
  funext fun y => congrArg (m ((c : Thread nD τ).loc main_arg2)) (funext fun a => Fin.ext (place 2 t y a))
theorem blk3 (c : Dev nD) (t : Fin cfg0.N) : iblk m c 3 t = m ((c : Thread nD τ).loc main_arg3) :=
  funext fun y => congrArg (m ((c : Thread nD τ).loc main_arg3)) (funext fun a => Fin.ext (place 3 t y a))

/-- The result array, from the arguments as launched. -/
def refV (c : Dev nD) : Vec F S4096x2048 .f32 :=
  refOf (m ((c : Thread nD τ).loc main_arg0)) (m ((c : Thread nD τ).loc main_arg1)) (m ((c : Thread nD τ).loc main_arg2)) (m ((c : Thread nD τ).loc main_arg3))

/-- What the point writes back is the whole of it, -/
theorem flushes (c : Dev nD) (t : Fin cfg0.N) : (dats m 0 c).flushed 4 t = ((cfg0.win 4).blk t).view.read (Elt F) (refV m c) := by
  rw [Cert.ReferenceIdeal.Value.flushed4_A, body_leaves, blk0, blk1, blk2, blk3]
  exact funext fun y => congrArg (refV m c) (funext fun a => Fin.ext (place 4 t y a).symm)

/-- every index is in the block it writes back, -/
theorem covers (t : Fin cfg0.N) (i : S4096x2048.Idx) : i ∈ ((cfg0.win 4).blk t).view.set := by
  have e : ((cfg0.win 4).blk t).view.emb i = i := funext fun a => Fin.ext (place 4 t i a)
  have h := ((cfg0.win 4).blk t).view.emb_mem_set i
  rwa [e] at h

/-- so the array ends holding it. -/
theorem final (c : Dev nD) : (dats m 0 c).arrAt 4 cfg0.N = refV m c :=
  (dats m 0 c).arrAt_eq_of_cover 4 (refV m c) (fun t _ => flushes m c t) fun i => ⟨(⟨0, by decide⟩ : Fin cfg0.N), flush0_4 _, covers _ i⟩

end Any

/-! ## Over the extended reals -/

theorem dot_plain : dot_S4096x4096_S4096x2048_S4096x2048_1_0_0_1_n_n = DotDims.plain 4096 4096 2048 := rfl

/-- The result at an index. -/
theorem refOf_apply (x : Vec Ideal S4096x4096 .fp8e5m2) (w : Vec Ideal S4096x2048 .fp8e5m2) (a b : Vec Ideal S1 .f32) (r : Fin 4096) (q : Fin 2048) :
    refOf x w a b (ix2 r q) = (∑ j : Fin 4096, (x (ix2 r j) : EReal) * w (ix2 j q)) * ((a (ix1 0) : EReal) * b (ix1 0)) := by
  have h := Ideal.matmul_plain_apply (M := 4096) (K := 4096) (N := 2048) none (extf .f32 x bitsLt_fp8e5m2_f32 : FVec Ideal S4096x4096 .f32)
    (extf .f32 w bitsLt_fp8e5m2_f32 : FVec Ideal S4096x2048 .f32) (constant S4096x2048 .f32 0x00000000#32) r q
  rw [constant_apply, Ideal.ofBits_zero_f32, zero_add] at h
  exact congrArg (· * ((a (ix1 0) : EReal) * b (ix1 0))) h

end Cert.RefValue

end
-- ==== Proof.Whole.lean ====
/-
# The kernel against the reference

Device `c`'s result is row block `c` of the reference's: the 4096 products of an element, sixteen times 256, are the block
products of the sixteen devices.
-/
module

public import proofs.«01_k».proof.Proof.Value
public import proofs.«01_k».proof.Proof.Ref
public import Idealize.ShloMosaic.Lib.Layout

@[expose] public section

noncomputable section

namespace Cert.Ring

open Cert.KernelIdeal Cert.KernelIdeal.Gen
open Idealize.ShloMosaic Idealize.ShloMosaic.TcCoe Idealize.SL.Sem
open Idealize.ShloMosaic.ValueIdx

/-- Place `j` of the 256 of device `d`. -/
def spot (d : Fin 16) (j : Fin 256) : Fin 4096 := ⟨256 * d.val + j.val, by omega⟩

/-- A sum over 4096 places, device by device. -/
theorem sum_spots (f : Fin 4096 → EReal) : ∑ i : Fin 4096, f i = ∑ d : Fin 16, ∑ j : Fin 256, f (spot d j) := by
  rw [← Fintype.sum_prod_type']
  refine ((finProdFinEquiv (m := 16) (n := 256)).sum_comp f).symm.trans (Finset.sum_congr rfl fun p _ => congrArg f (Fin.ext ?_))
  show p.2.val + 256 * p.1.val = 256 * p.1.val + p.2.val
  omega

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The reference's two matrices, -/
def xW (i j : Fin 4096) : EReal := m' (((0 : Dev Cert.ReferenceIdeal.nD).tc : Thread Cert.ReferenceIdeal.nD Cert.ReferenceIdeal.τ).loc Cert.ReferenceIdeal.main_arg0) (ix2 i j)
def wW (i : Fin 4096) (j : Fin 2048) : EReal := m' (((0 : Dev Cert.ReferenceIdeal.nD).tc : Thread Cert.ReferenceIdeal.nD Cert.ReferenceIdeal.τ).loc Cert.ReferenceIdeal.main_arg1) (ix2 i j)
/-- and scales. -/
def aW : EReal := m' (((0 : Dev Cert.ReferenceIdeal.nD).tc : Thread Cert.ReferenceIdeal.nD Cert.ReferenceIdeal.τ).loc Cert.ReferenceIdeal.main_arg2) (ix1 0)
def bW : EReal := m' (((0 : Dev Cert.ReferenceIdeal.nD).tc : Thread Cert.ReferenceIdeal.nD Cert.ReferenceIdeal.τ).loc Cert.ReferenceIdeal.main_arg3) (ix1 0)

/-- The reference's result at an index. -/
theorem refV_apply (i : Fin 4096) (j : Fin 2048) :
    (Cert.RefValue.refV m' (0 : Dev Cert.ReferenceIdeal.nD) (ix2 i j) : EReal) = (∑ d : Fin 16, ∑ t : Fin 256, xW m' i (spot d t) * wW m' (spot d t) j) * (aW m' * bW m') :=
  (Cert.RefValue.refOf_apply _ _ _ _ i j).trans (congrArg (· * (aW m' * bW m')) (sum_spots fun t => xW m' i t * wW m' t j))

/-- The arguments of the two programs agree. -/
def Agree : Prop := ∀ c : Dev nD,
  m ((c.tc : Thread nD τ).loc main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
  ∧ m ((c.tc : Thread nD τ).loc main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
  ∧ m ((c.tc : Thread nD τ).loc main_arg2) = m' (((0 : Dev Cert.ReferenceIdeal.nD).tc : Thread Cert.ReferenceIdeal.nD Cert.ReferenceIdeal.τ).loc Cert.ReferenceIdeal.main_arg2)
  ∧ m ((c.tc : Thread nD τ).loc main_arg3) = m' (((0 : Dev Cert.ReferenceIdeal.nD).tc : Thread Cert.ReferenceIdeal.nD Cert.ReferenceIdeal.τ).loc Cert.ReferenceIdeal.main_arg3)

variable {m m'}

theorem xe_eq (h : Agree m m') (d : Dev nD) (i : Fin 4096) (t : Fin 256) : xe m ρ d i t = xW m' i (spot ⟨d.val, dev_lt d⟩ t) := by
  unfold xe
  rw [xst_eq, (h d).1]
  refine congrArg (m' (((0 : Dev Cert.ReferenceIdeal.nD).tc : Thread Cert.ReferenceIdeal.nD Cert.ReferenceIdeal.τ).loc Cert.ReferenceIdeal.main_arg0)) (funext fun a => Fin.ext ?_)
  match a with
  | ⟨0, _⟩ => rfl
  | ⟨1, _⟩ => show d.val * 256 + t.val = 256 * d.val + t.val; omega
theorem we_eq (h : Agree m m') (d : Dev nD) (t : Fin 256) (j : Fin 2048) : we m ρ d t j = wW m' (spot ⟨d.val, dev_lt d⟩ t) j := by
  unfold we
  rw [wst_eq, (h d).2.1]
  refine congrArg (m' (((0 : Dev Cert.ReferenceIdeal.nD).tc : Thread Cert.ReferenceIdeal.nD Cert.ReferenceIdeal.τ).loc Cert.ReferenceIdeal.main_arg1)) (funext fun a => Fin.ext ?_)
  match a with
  | ⟨0, _⟩ => show d.val * 256 + t.val = 256 * d.val + t.val; omega
  | ⟨1, _⟩ => rfl
theorem scale_eq (h : Agree m m') (c : Dev nD) : (scale m ρ c : EReal) = aW m' * bW m' := by
  have e (f : Vec Ideal S1 .f32) (i j : S1.Idx) : f i = f j := congrArg f (funext fun k => by
    match k with
    | ⟨0, _⟩ => exact Subsingleton.elim (α := Fin 1) _ _)
  unfold scale
  rw [ast_eq, bst_eq, (h c).2.2.1, (h c).2.2.2]
  exact congrArg₂ (fun a b : EReal => a * b)
    (e (m' (((0 : Dev Cert.ReferenceIdeal.nD).tc : Thread Cert.ReferenceIdeal.nD Cert.ReferenceIdeal.τ).loc Cert.ReferenceIdeal.main_arg2)) _ _)
    (e (m' (((0 : Dev Cert.ReferenceIdeal.nD).tc : Thread Cert.ReferenceIdeal.nD Cert.ReferenceIdeal.τ).loc Cert.ReferenceIdeal.main_arg3)) _ _)

theorem cell_eq (r q : Fin 256) : cell r q = ix2 r q := by
  funext a
  match a with
  | ⟨0, _⟩ => rfl
  | ⟨1, _⟩ => rfl

/-- Device `c`'s result is its row block of the reference's. -/
theorem outB_eq (h : Agree m m') (c : Dev nD) :
    outB m ρ c = Layout.block ⟨2, ![256, 2048]⟩ ⟨2, ![4096, 2048]⟩ 0 16 c (Cert.RefValue.refV m' (0 : Dev Cert.ReferenceIdeal.nD)) := by
  funext i
  have h0 : (i 0).val < 256 := (i 0).isLt
  have h1 : (i 1).val < 2048 := (i 1).isLt
  have hc := dev_lt c
  unfold outB
  rw [cell_eq]
  refine (outV_apply m ρ c _ _ _).trans ?_
  rw [scale_eq ρ h c]
  refine Eq.trans ?_ ((refV_apply m' ⟨256 * c.val + (i 0).val, by omega⟩ ⟨(i 1).val, h1⟩).symm.trans ?_)
  · refine congrArg (· * (aW m' * bW m')) (Finset.sum_congr rfl fun d _ => Finset.sum_congr rfl fun t _ => ?_)
    refine congrArg₂ (fun a b : EReal => a * b) ((xe_eq ρ h d _ t).trans (congrArg (xW m' · _) (Fin.ext ?_))) ((we_eq ρ h d t _).trans (congrArg (wW m' _) (Fin.ext ?_)))
    · show 256 * c.val + (i 0).val % 256 = 256 * c.val + (i 0).val; omega
    · show 256 * ((i 1).val / 256 % 8) + (i 1).val % 256 = (i 1).val; omega
  · refine congrArg (Cert.RefValue.refV m' (0 : Dev Cert.ReferenceIdeal.nD)) (funext fun a => Fin.ext ?_)
    match a with
    | ⟨0, _⟩ => show 256 * c.val + (i 0).val = c.val * 256 + (i 0).val; omega
    | ⟨1, _⟩ => rfl

end Cert.Ring

end
-- ==== Proof.lean ====
/-
The proof of `Cert.Claim`: both programs run, and end quiescent with their arguments unchanged, on every device; the
idealization is the program's own text; and over the extended reals each device's result is its row block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Whole
public import Idealize.ShloMosaic.Adequacy
public import Idealize.ShloMosaic.Init

@[expose] public section

noncomputable section

namespace Cert.Proof

open Idealize.ShloMosaic Idealize.SL.Sem Cert.Kernel

/-- After the kernel's run a device's arguments are as launched. -/
theorem kept {F : FTy → Type} [FloatOps F] (m : (ℓ : Loc Cert.KernelIdeal.nD Cert.KernelIdeal.τ Cert.KernelIdeal.sig) → Buf (Elt F) ℓ) (g : Dev Cert.KernelIdeal.nD → PrngReg)
    (r : PUnit × MemSt Cert.KernelIdeal.nD Cert.KernelIdeal.τ Cert.KernelIdeal.sig (Elt F)) (h : Cert.Ring.QC m g r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c (0 : Fin 5)).trans (Cert.Ring.finalA_0 m g c), (h c (1 : Fin 5)).trans (Cert.Ring.finalA_1 m g c),
    (h c (2 : Fin 5)).trans (Cert.Ring.finalA_2 m g c), (h c (3 : Fin 5)).trans (Cert.Ring.finalA_3 m g c)⟩

/-- For any float values the kernel ends quiescent with its arguments as launched. -/
theorem quiet {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono (fun r h => ⟨kept m g r h.1, h.2⟩) (Cert.Ring.run_main (F := F) m g)

/-- What the claim says of the kernel, with the idealization's text in its place. -/
def QuietBits : Prop := ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two texts are one, by unfolding. -/
theorem one_text : QuietBits = Cert.quiescent_Kernel := by sl_kernel_rfl

theorem kernel_bits : Cert.quiescent_Kernel := one_text.mp fun m g _ => quiet (F := Bits) m g

theorem kernel_ideal : Cert.quiescent_KernelIdeal := fun m g _ => quiet (F := Ideal) m g

theorem reference_ideal : Cert.quiescent_ReferenceIdeal := fun m g _ => Cert.ReferenceIdeal.Gen.frame m g

theorem values : Cert.algebraic_KernelIdeal_ReferenceIdeal := fun m g m' g' _ h =>
  ⟨Cert.RefValue.refV m' 0,
    (θ_run (Cert.KernelIdeal.defs (F := Ideal)) _ _).mono
      (fun r hr c => ⟨(hr.1 c (4 : Fin 5)).trans ((Cert.Ring.finalA_4 m g c).trans (Cert.Ring.outB_eq g h c)), kept m g r hr.1 c⟩)
      (Cert.Ring.run_main (F := Ideal) m g),
    (θ_run (Cert.ReferenceIdeal.defs (F := Ideal)) _ _).mono
      (fun r hr => ⟨(hr 0).1.trans (Cert.RefValue.final m' 0), (hr 0).2⟩)
      (Cert.ReferenceIdeal.Value.run_blocks m' g')⟩

theorem claim : Cert.Claim :=
  ⟨Cert.Kernel.Gen.facts, Cert.KernelIdeal.Gen.facts, Cert.ReferenceIdeal.Gen.facts, kernel_bits, kernel_ideal, reference_ideal, trivial, values⟩

end Cert.Proof

end
